-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x20000x81 : Shape := ⟨3, ![1, 20000, 81]⟩
abbrev S1x20000x4 : Shape := ⟨3, ![1, 20000, 4]⟩
abbrev S20000x4 : Shape := ⟨2, ![20000, 4]⟩
abbrev S20000x81 : Shape := ⟨2, ![20000, 81]⟩
abbrev S20000x1 : Shape := ⟨2, ![20000, 1]⟩
abbrev S20000 : Shape := ⟨1, ![20000]⟩
abbrev S_ : Shape := ⟨0, ![]⟩
abbrev S20480 : Shape := ⟨1, ![20480]⟩
abbrev S160x128 : Shape := ⟨2, ![160, 128]⟩
abbrev S81x20000 : Shape := ⟨2, ![81, 20000]⟩
abbrev S80x20000 : Shape := ⟨2, ![80, 20000]⟩
abbrev S80x20480 : Shape := ⟨2, ![80, 20480]⟩
abbrev S80x160x128 : Shape := ⟨3, ![80, 160, 128]⟩
abbrev S80x104x128 : Shape := ⟨3, ![80, 104, 128]⟩
abbrev S80x104x8 : Shape := ⟨3, ![80, 104, 8]⟩
abbrev S80x100x4 : Shape := ⟨3, ![80, 100, 4]⟩
abbrev S80x100x1 : Shape := ⟨3, ![80, 100, 1]⟩
abbrev S80x100 : Shape := ⟨2, ![80, 100]⟩
abbrev S80 : Shape := ⟨1, ![80]⟩
abbrev S80x1 : Shape := ⟨2, ![80, 1]⟩
abbrev S16x160x128 : Shape := ⟨3, ![16, 160, 128]⟩
abbrev S16x104x128 : Shape := ⟨3, ![16, 104, 128]⟩
abbrev S16x104x8 : Shape := ⟨3, ![16, 104, 8]⟩
abbrev S16x1x128 : Shape := ⟨3, ![16, 1, 128]⟩
abbrev S16 : Shape := ⟨1, ![16]⟩
abbrev S16x1x1 : Shape := ⟨3, ![16, 1, 1]⟩
abbrev S1x160x128 : Shape := ⟨3, ![1, 160, 128]⟩
abbrev S16x1x8 : Shape := ⟨3, ![16, 1, 8]⟩

abbrev nBuf : Space → Nat
  | .hbm => 87
  | .vmem => 24
  | .smem => 0
  | _ => 0

abbrev bufTy : (tb : Table) → Fin (tcTables nBuf tb) → BufTy
  | .hbm, ⟨0, _⟩ => ⟨S1x20000x81, .f32⟩
  | .hbm, ⟨1, _⟩ => ⟨S1x20000x4, .f32⟩
  | .hbm, ⟨2, _⟩ => ⟨S20000x4, .f32⟩
  | .hbm, ⟨3, _⟩ => ⟨S20000x81, .f32⟩
  | .hbm, ⟨4, _⟩ => ⟨S20000x4, .f32⟩
  | .hbm, ⟨5, _⟩ => ⟨S20000x1, .f32⟩
  | .hbm, ⟨6, _⟩ => ⟨S20000, .f32⟩
  | .hbm, ⟨7, _⟩ => ⟨S_, .f32⟩
  | .hbm, ⟨8, _⟩ => ⟨S20000, .f32⟩
  | .hbm, ⟨9, _⟩ => ⟨S20000, .f32⟩
  | .hbm, ⟨10, _⟩ => ⟨S_, .i32⟩
  | .hbm, ⟨11, _⟩ => ⟨S_, .f32⟩
  | .hbm, ⟨12, _⟩ => ⟨S20480, .f32⟩
  | .hbm, ⟨13, _⟩ => ⟨S160x128, .f32⟩
  | .hbm, ⟨14, _⟩ => ⟨S20000x1, .f32⟩
  | .hbm, ⟨15, _⟩ => ⟨S20000, .f32⟩
  | .hbm, ⟨16, _⟩ => ⟨S_, .f32⟩
  | .hbm, ⟨17, _⟩ => ⟨S20000, .f32⟩
  | .hbm, ⟨18, _⟩ => ⟨S20000, .f32⟩
  | .hbm, ⟨19, _⟩ => ⟨S_, .i32⟩
  | .hbm, ⟨20, _⟩ => ⟨S_, .f32⟩
  | .hbm, ⟨21, _⟩ => ⟨S20480, .f32⟩
  | .hbm, ⟨22, _⟩ => ⟨S160x128, .f32⟩
  | .hbm, ⟨23, _⟩ => ⟨S20000x1, .f32⟩
  | .hbm, ⟨24, _⟩ => ⟨S20000, .f32⟩
  | .hbm, ⟨25, _⟩ => ⟨S_, .f32⟩
  | .hbm, ⟨26, _⟩ => ⟨S20000, .f32⟩
  | .hbm, ⟨27, _⟩ => ⟨S20000, .f32⟩
  | .hbm, ⟨28, _⟩ => ⟨S_, .i32⟩
  | .hbm, ⟨29, _⟩ => ⟨S_, .f32⟩
  | .hbm, ⟨30, _⟩ => ⟨S20480, .f32⟩
  | .hbm, ⟨31, _⟩ => ⟨S160x128, .f32⟩
  | .hbm, ⟨32, _⟩ => ⟨S20000x1, .f32⟩
  | .hbm, ⟨33, _⟩ => ⟨S20000, .f32⟩
  | .hbm, ⟨34, _⟩ => ⟨S_, .f32⟩
  | .hbm, ⟨35, _⟩ => ⟨S20000, .f32⟩
  | .hbm, ⟨36, _⟩ => ⟨S20000, .f32⟩
  | .hbm, ⟨37, _⟩ => ⟨S_, .i32⟩
  | .hbm, ⟨38, _⟩ => ⟨S_, .f32⟩
  | .hbm, ⟨39, _⟩ => ⟨S20480, .f32⟩
  | .hbm, ⟨40, _⟩ => ⟨S160x128, .f32⟩
  | .hbm, ⟨41, _⟩ => ⟨S20000x1, .f32⟩
  | .hbm, ⟨42, _⟩ => ⟨S20000, .f32⟩
  | .hbm, ⟨43, _⟩ => ⟨S_, .i32⟩
  | .hbm, ⟨44, _⟩ => ⟨S_, .f32⟩
  | .hbm, ⟨45, _⟩ => ⟨S20480, .f32⟩
  | .hbm, ⟨46, _⟩ => ⟨S160x128, .f32⟩
  | .hbm, ⟨47, _⟩ => ⟨S20000x1, .f32⟩
  | .hbm, ⟨48, _⟩ => ⟨S20000, .f32⟩
  | .hbm, ⟨49, _⟩ => ⟨S_, .i32⟩
  | .hbm, ⟨50, _⟩ => ⟨S_, .f32⟩
  | .hbm, ⟨51, _⟩ => ⟨S20480, .f32⟩
  | .hbm, ⟨52, _⟩ => ⟨S160x128, .f32⟩
  | .hbm, ⟨53, _⟩ => ⟨S20000x1, .f32⟩
  | .hbm, ⟨54, _⟩ => ⟨S20000, .f32⟩
  | .hbm, ⟨55, _⟩ => ⟨S_, .i32⟩
  | .hbm, ⟨56, _⟩ => ⟨S_, .f32⟩
  | .hbm, ⟨57, _⟩ => ⟨S20480, .f32⟩
  | .hbm, ⟨58, _⟩ => ⟨S160x128, .f32⟩
  | .hbm, ⟨59, _⟩ => ⟨S20000x1, .f32⟩
  | .hbm, ⟨60, _⟩ => ⟨S20000, .f32⟩
  | .hbm, ⟨61, _⟩ => ⟨S_, .i32⟩
  | .hbm, ⟨62, _⟩ => ⟨S_, .f32⟩
  | .hbm, ⟨63, _⟩ => ⟨S20480, .f32⟩
  | .hbm, ⟨64, _⟩ => ⟨S160x128, .f32⟩
  | .hbm, ⟨65, _⟩ => ⟨S160x128, .f32⟩
  | .hbm, ⟨66, _⟩ => ⟨S160x128, .f32⟩
  | .hbm, ⟨67, _⟩ => ⟨S160x128, .f32⟩
  | .hbm, ⟨68, _⟩ => ⟨S160x128, .f32⟩
  | .hbm, ⟨69, _⟩ => ⟨S160x128, .f32⟩
  | .hbm, ⟨70, _⟩ => ⟨S81x20000, .f32⟩
  | .hbm, ⟨71, _⟩ => ⟨S80x20000, .f32⟩
  | .hbm, ⟨72, _⟩ => ⟨S_, .f32⟩
  | .hbm, ⟨73, _⟩ => ⟨S_, .f32⟩
  | .hbm, ⟨74, _⟩ => ⟨S80x20480, .f32⟩
  | .hbm, ⟨75, _⟩ => ⟨S80x160x128, .f32⟩
  | .hbm, ⟨76, _⟩ => ⟨S80x104x128, .f32⟩
  | .hbm, ⟨77, _⟩ => ⟨S80x104x8, .f32⟩
  | .hbm, ⟨78, _⟩ => ⟨S80x100x4, .f32⟩
  | .hbm, ⟨79, _⟩ => ⟨S80x100x1, .f32⟩
  | .hbm, ⟨80, _⟩ => ⟨S80x100, .f32⟩
  | .hbm, ⟨81, _⟩ => ⟨S80, .i32⟩
  | .hbm, ⟨82, _⟩ => ⟨S_, .i32⟩
  | .hbm, ⟨83, _⟩ => ⟨S80, .i32⟩
  | .hbm, ⟨84, _⟩ => ⟨S80, .i32⟩
  | .hbm, ⟨85, _⟩ => ⟨S80x1, .i32⟩
  | .hbm, ⟨86, _⟩ => ⟨S80x100, .i32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | .local _ .vmem, ⟨7, _⟩ => ⟨S160x128, .f32⟩
  | .local _ .vmem, ⟨8, _⟩ => ⟨S160x128, .f32⟩
  | .local _ .vmem, ⟨9, _⟩ => ⟨S160x128, .f32⟩
  | .local _ .vmem, ⟨10, _⟩ => ⟨S160x128, .f32⟩
  | .local _ .vmem, ⟨11, _⟩ => ⟨S160x128, .f32⟩
  | .local _ .vmem, ⟨12, _⟩ => ⟨S160x128, .f32⟩
  | .local _ .vmem, ⟨13, _⟩ => ⟨S16x160x128, .f32⟩
  | .local _ .vmem, ⟨14, _⟩ => ⟨S16x160x128, .f32⟩
  | .local _ .vmem, ⟨15, _⟩ => ⟨S160x128, .f32⟩
  | .local _ .vmem, ⟨16, _⟩ => ⟨S160x128, .f32⟩
  | .local _ .vmem, ⟨17, _⟩ => ⟨S160x128, .f32⟩
  | .local _ .vmem, ⟨18, _⟩ => ⟨S160x128, .f32⟩
  | .local _ .vmem, ⟨19, _⟩ => ⟨S160x128, .f32⟩
  | .local _ .vmem, ⟨20, _⟩ => ⟨S16x104x128, .f32⟩
  | .local _ .vmem, ⟨21, _⟩ => ⟨S16x104x128, .f32⟩
  | .local _ .vmem, ⟨22, _⟩ => ⟨S16x104x8, .f32⟩
  | .local _ .vmem, ⟨23, _⟩ => ⟨S16x104x8, .f32⟩
  | _, _ => ⟨S1x20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst : Ref sig .tc := ⟨.hbm, 7, rfl⟩
abbrev main_call0_v4 : Ref sig .tc := ⟨.hbm, 8, rfl⟩
abbrev main_call0_v5 : Ref sig .tc := ⟨.hbm, 9, rfl⟩
abbrev main_call0_c : Ref sig .tc := ⟨.hbm, 10, rfl⟩
abbrev main_call0_call0_v0 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_cst_0 : Ref sig .tc := ⟨.hbm, 16, rfl⟩
abbrev main_call0_v10 : Ref sig .tc := ⟨.hbm, 17, rfl⟩
abbrev main_call0_v11 : Ref sig .tc := ⟨.hbm, 18, rfl⟩
abbrev main_call0_c_1 : Ref sig .tc := ⟨.hbm, 19, rfl⟩
abbrev main_call0_call1_v0 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_cst_2 : Ref sig .tc := ⟨.hbm, 25, rfl⟩
abbrev main_call0_v16 : Ref sig .tc := ⟨.hbm, 26, rfl⟩
abbrev main_call0_v17 : Ref sig .tc := ⟨.hbm, 27, rfl⟩
abbrev main_call0_c_3 : Ref sig .tc := ⟨.hbm, 28, rfl⟩
abbrev main_call0_call2_v0 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_cst_4 : Ref sig .tc := ⟨.hbm, 34, rfl⟩
abbrev main_call0_v22 : Ref sig .tc := ⟨.hbm, 35, rfl⟩
abbrev main_call0_v23 : Ref sig .tc := ⟨.hbm, 36, rfl⟩
abbrev main_call0_c_5 : Ref sig .tc := ⟨.hbm, 37, rfl⟩
abbrev main_call0_call3_v0 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_c_6 : Ref sig .tc := ⟨.hbm, 43, rfl⟩
abbrev main_call0_call4_v0 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_c_7 : Ref sig .tc := ⟨.hbm, 49, rfl⟩
abbrev main_call0_call5_v0 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_c_8 : Ref sig .tc := ⟨.hbm, 55, rfl⟩
abbrev main_call0_call6_v0 : Ref sig .tc := ⟨.hbm, 56, rfl⟩
abbrev main_call0_v36 : Ref sig .tc := ⟨.hbm, 57, rfl⟩
abbrev main_call0_v37 : Ref sig .tc := ⟨.hbm, 58, rfl⟩
abbrev main_call0_v38 : Ref sig .tc := ⟨.hbm, 59, rfl⟩
abbrev main_call0_v39 : Ref sig .tc := ⟨.hbm, 60, rfl⟩
abbrev main_call0_c_9 : Ref sig .tc := ⟨.hbm, 61, rfl⟩
abbrev main_call0_call7_v0 : Ref sig .tc := ⟨.hbm, 62, rfl⟩
abbrev main_call0_v40 : Ref sig .tc := ⟨.hbm, 63, rfl⟩
abbrev main_call0_v41 : Ref sig .tc := ⟨.hbm, 64, rfl⟩
abbrev main_call0_v42_0 : Ref sig .tc := ⟨.hbm, 65, rfl⟩
abbrev main_call0_v42_1 : Ref sig .tc := ⟨.hbm, 66, rfl⟩
abbrev main_call0_v42_2 : Ref sig .tc := ⟨.hbm, 67, rfl⟩
abbrev main_call0_v42_3 : Ref sig .tc := ⟨.hbm, 68, rfl⟩
abbrev main_call0_v42_4 : Ref sig .tc := ⟨.hbm, 69, rfl⟩
abbrev main_call0_v43 : Ref sig .tc := ⟨.hbm, 70, rfl⟩
abbrev main_call0_v44 : Ref sig .tc := ⟨.hbm, 71, rfl⟩
abbrev main_call0_cst_10 : Ref sig .tc := ⟨.hbm, 72, rfl⟩
abbrev main_call0_call8_v0 : Ref sig .tc := ⟨.hbm, 73, rfl⟩
abbrev main_call0_v45 : Ref sig .tc := ⟨.hbm, 74, rfl⟩
abbrev main_call0_v46 : Ref sig .tc := ⟨.hbm, 75, rfl⟩
abbrev main_call0_v47_0 : Ref sig .tc := ⟨.hbm, 76, rfl⟩
abbrev main_call0_v47_1 : Ref sig .tc := ⟨.hbm, 77, rfl⟩
abbrev main_v0_0 : Ref sig .tc := ⟨.hbm, 78, rfl⟩
abbrev main_call0_v49 : Ref sig .tc := ⟨.hbm, 79, rfl⟩
abbrev main_v0_2 : Ref sig .tc := ⟨.hbm, 80, rfl⟩
abbrev main_call0_v51 : Ref sig .tc := ⟨.hbm, 81, rfl⟩
abbrev main_call0_c_11 : Ref sig .tc := ⟨.hbm, 82, rfl⟩
abbrev main_call0_v52 : Ref sig .tc := ⟨.hbm, 83, rfl⟩
abbrev main_call0_v53 : Ref sig .tc := ⟨.hbm, 84, rfl⟩
abbrev main_call0_v54 : Ref sig .tc := ⟨.hbm, 85, rfl⟩
abbrev main_v0_1 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := .none

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S160x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S160x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S160x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S160x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S160x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨1, ![5], ![false]⟩

@[reducible] def k1_t1_loop : Scf.Loop 32 :=
  let c0_i32 : BitVec 32 := 0#32
  let c100_i32 : BitVec 32 := 100#32
  let v23 : BitVec 32 := Scalar.addi c0_i32 c100_i32
  let c1_i32 : BitVec 32 := 1#32
  ⟨c0_i32, v23, c1_i32⟩
def k1_off1 (k1_t1 : Fin k1_t1_loop.trips) : Fin 3 → Nat :=
  let c0_34 : Index := 0#32
  let c0_i32 : BitVec 32 := 0#32
  let c1_i32 : BitVec 32 := 1#32
  let arg9 : BitVec 32 := Scf.iv c0_i32 c1_i32 k1_t1
  let v132 : Index := Scalar.indexCast arg9
  let c0_35 : Index := 0#32
  ![0, v132.toNat, 0]
def k1_off2 (k1_t1 : Fin k1_t1_loop.trips) : Fin 3 → Nat :=
  let c0_36 : Index := 0#32
  let c0_i32 : BitVec 32 := 0#32
  let c1_i32 : BitVec 32 := 1#32
  let arg9 : BitVec 32 := Scf.iv c0_i32 c1_i32 k1_t1
  let v136 : Index := Scalar.indexCast arg9
  let c0_37 : Index := 0#32
  ![0, v136.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x160x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S160x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S160x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S160x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S160x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S160x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S16x104x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S16x104x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S1x20000x81 : Shape := ⟨3, ![1, 20000, 81]⟩
abbrev S1x20000x4 : Shape := ⟨3, ![1, 20000, 4]⟩
abbrev S20000x4 : Shape := ⟨2, ![20000, 4]⟩
abbrev S4 : Shape := ⟨1, ![4]⟩
abbrev S_ : Shape := ⟨0, ![]⟩
abbrev S20000x81 : Shape := ⟨2, ![20000, 81]⟩
abbrev S1 : Shape := ⟨1, ![1]⟩
abbrev S1x20000x1 : Shape := ⟨3, ![1, 20000, 1]⟩
abbrev S1x20000 : Shape := ⟨2, ![1, 20000]⟩
abbrev S20000x1 : Shape := ⟨2, ![20000, 1]⟩
abbrev S20000 : Shape := ⟨1, ![20000]⟩
abbrev S20000x80 : Shape := ⟨2, ![20000, 80]⟩
abbrev S80x20000 : Shape := ⟨2, ![80, 20000]⟩
abbrev S100x80x4 : Shape := ⟨3, ![100, 80, 4]⟩
abbrev S100x80 : Shape := ⟨2, ![100, 80]⟩
abbrev S80 : Shape := ⟨1, ![80]⟩
abbrev S80x1 : Shape := ⟨2, ![80, 1]⟩
abbrev S80x2 : Shape := ⟨2, ![80, 2]⟩
abbrev S80x1x4 : Shape := ⟨3, ![80, 1, 4]⟩
abbrev S80x4 : Shape := ⟨2, ![80, 4]⟩
abbrev S20000x2 : Shape := ⟨2, ![20000, 2]⟩
abbrev S80x1x2 : Shape := ⟨3, ![80, 1, 2]⟩
abbrev S1x20000x2 : Shape := ⟨3, ![1, 20000, 2]⟩
abbrev S80x20000x2 : Shape := ⟨3, ![80, 20000, 2]⟩
abbrev S80x20000x1 : Shape := ⟨3, ![80, 20000, 1]⟩
abbrev S1x80x4 : Shape := ⟨3, ![1, 80, 4]⟩
abbrev S1x80 : Shape := ⟨2, ![1, 80]⟩
abbrev S80x100x4 : Shape := ⟨3, ![80, 100, 4]⟩
abbrev S80x100 : Shape := ⟨2, ![80, 100]⟩

abbrev nBuf : Space → Nat
  | .hbm => 242
  | .vmem => 0
  | .smem => 0
  | _ => 0

abbrev hbmTy0_0 (i : Nat) : BufTy := match i % 128 with
  | 0 => ⟨S1x20000x81, .f32⟩
  | 1 => ⟨S1x20000x4, .f32⟩
  | 2 => ⟨S20000x4, .f32⟩
  | 3 => ⟨S4, .f32⟩
  | 4 => ⟨S1x20000x81, .f32⟩
  | 5 => ⟨S1x20000x81, .f32⟩
  | 6 => ⟨S_, .f32⟩
  | 7 => ⟨S1x20000x81, .f32⟩
  | 8 => ⟨S1x20000x81, .f32⟩
  | 9 => ⟨S_, .f32⟩
  | 10 => ⟨S1x20000x81, .f32⟩
  | 11 => ⟨S1x20000x81, .f32⟩
  | 12 => ⟨S20000x81, .f32⟩
  | 13 => ⟨S1, .f32⟩
  | 14 => ⟨S_, .f32⟩
  | 15 => ⟨S1, .f32⟩
  | 16 => ⟨S_, .f32⟩
  | 17 => ⟨S1, .f32⟩
  | 18 => ⟨S_, .f32⟩
  | 19 => ⟨S1, .f32⟩
  | 20 => ⟨S_, .f32⟩
  | 21 => ⟨S1x20000x1, .f32⟩
  | 22 => ⟨S1x20000, .f32⟩
  | 23 => ⟨S1x20000, .f32⟩
  | 24 => ⟨S1x20000, .f32⟩
  | 25 => ⟨S1x20000x1, .f32⟩
  | 26 => ⟨S1x20000, .f32⟩
  | 27 => ⟨S1x20000, .f32⟩
  | 28 => ⟨S1x20000, .f32⟩
  | 29 => ⟨S1x20000x1, .f32⟩
  | 30 => ⟨S1x20000, .f32⟩
  | 31 => ⟨S1x20000, .f32⟩
  | 32 => ⟨S1x20000, .f32⟩
  | 33 => ⟨S1x20000x1, .f32⟩
  | 34 => ⟨S1x20000, .f32⟩
  | 35 => ⟨S1x20000, .f32⟩
  | 36 => ⟨S1x20000, .f32⟩
  | 37 => ⟨S20000x1, .f32⟩
  | 38 => ⟨S20000, .f32⟩
  | 39 => ⟨S20000x1, .f32⟩
  | 40 => ⟨S20000, .f32⟩
  | 41 => ⟨S20000x1, .f32⟩
  | 42 => ⟨S20000, .f32⟩
  | 43 => ⟨S20000x1, .f32⟩
  | 44 => ⟨S20000, .f32⟩
  | 45 => ⟨S1x20000, .f32⟩
  | 46 => ⟨S1x20000, .f32⟩
  | 47 => ⟨S1x20000, .f32⟩
  | 48 => ⟨S1x20000, .f32⟩
  | 49 => ⟨S1x20000, .f32⟩
  | 50 => ⟨S1x20000, .f32⟩
  | 51 => ⟨S1x20000, .f32⟩
  | 52 => ⟨S1x20000, .f32⟩
  | 53 => ⟨S1x20000, .f32⟩
  | 54 => ⟨S1x20000, .f32⟩
  | 55 => ⟨S1x20000, .f32⟩
  | 56 => ⟨S1x20000, .f32⟩
  | 57 => ⟨S1x20000, .f32⟩
  | 58 => ⟨S1x20000, .f32⟩
  | 59 => ⟨S_, .f32⟩
  | 60 => ⟨S1x20000, .f32⟩
  | 61 => ⟨S1x20000, .f32⟩
  | 62 => ⟨S1x20000, .f32⟩
  | 63 => ⟨S_, .f32⟩
  | 64 => ⟨S1x20000, .f32⟩
  | 65 => ⟨S1x20000, .f32⟩
  | 66 => ⟨S1x20000, .f32⟩
  | 67 => ⟨S_, .f32⟩
  | 68 => ⟨S1x20000, .f32⟩
  | 69 => ⟨S1x20000, .f32⟩
  | 70 => ⟨S1x20000, .f32⟩
  | 71 => ⟨S_, .f32⟩
  | 72 => ⟨S1x20000, .f32⟩
  | 73 => ⟨S1x20000, .f32⟩
  | 74 => ⟨S1x20000, .f32⟩
  | 75 => ⟨S1x20000x1, .f32⟩
  | 76 => ⟨S1x20000x1, .f32⟩
  | 77 => ⟨S1x20000x1, .f32⟩
  | 78 => ⟨S1x20000x1, .f32⟩
  | 79 => ⟨S1x20000x4, .f32⟩
  | 80 => ⟨S20000x4, .f32⟩
  | 81 => ⟨S20000x80, .f32⟩
  | 82 => ⟨S80x20000, .f32⟩
  | 83 => ⟨S_, .f32⟩
  | 84 => ⟨S80x20000, .f32⟩
  | 85 => ⟨S80x20000, .i1⟩
  | 86 => ⟨S_, .f32⟩
  | 87 => ⟨S_, .f32⟩
  | 88 => ⟨S20000, .f32⟩
  | 89 => ⟨S80x20000, .f32⟩
  | 90 => ⟨S80x20000, .f32⟩
  | 91 => ⟨S20000, .i32⟩
  | 92 => ⟨S_, .f32⟩
  | 93 => ⟨S100x80x4, .f32⟩
  | 94 => ⟨S_, .f32⟩
  | 95 => ⟨S100x80, .f32⟩
  | 96 => ⟨S_, .i32⟩
  | 97 => ⟨S20000x4, .f32⟩
  | 98 => ⟨S20000, .i32⟩
  | 99 => ⟨S_, .i32⟩
  | 100 => ⟨S80x20000, .f32⟩
  | 101 => ⟨S100x80x4, .f32⟩
  | 102 => ⟨S100x80, .f32⟩
  | 103 => ⟨S_, .i32⟩
  | 104 => ⟨S_, .i1⟩
  | 105 => ⟨S80x20000, .i32⟩
  | 106 => ⟨S_, .f32⟩
  | 107 => ⟨S_, .i32⟩
  | 108 => ⟨S80, .f32⟩
  | 109 => ⟨S80, .i32⟩
  | 110 => ⟨S_, .f32⟩
  | 111 => ⟨S80, .f32⟩
  | 112 => ⟨S_, .f32⟩
  | 113 => ⟨S80, .f32⟩
  | 114 => ⟨S80, .i1⟩
  | 115 => ⟨S_, .i32⟩
  | 116 => ⟨S80, .i32⟩
  | 117 => ⟨S80, .i1⟩
  | 118 => ⟨S_, .i32⟩
  | 119 => ⟨S80, .i32⟩
  | 120 => ⟨S80, .i32⟩
  | 121 => ⟨S80, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S1x20000x81, .f32⟩

abbrev hbmTy0_1 (i : Nat) : BufTy := match i % 128 with
  | 0 => ⟨S_, .i32⟩
  | 1 => ⟨S_, .i32⟩
  | 2 => ⟨S80x1, .i32⟩
  | 3 => ⟨S80x1, .i32⟩
  | 4 => ⟨S80x2, .i32⟩
  | 5 => ⟨S80x1x4, .f32⟩
  | 6 => ⟨S80x4, .f32⟩
  | 7 => ⟨S80x2, .f32⟩
  | 8 => ⟨S20000x2, .f32⟩
  | 9 => ⟨S80x1x2, .f32⟩
  | 10 => ⟨S1x20000x2, .f32⟩
  | 11 => ⟨S80x20000x2, .f32⟩
  | 12 => ⟨S80x20000x2, .f32⟩
  | 13 => ⟨S80x20000x2, .f32⟩
  | 14 => ⟨S80x2, .f32⟩
  | 15 => ⟨S20000x2, .f32⟩
  | 16 => ⟨S80x1x2, .f32⟩
  | 17 => ⟨S1x20000x2, .f32⟩
  | 18 => ⟨S80x20000x2, .f32⟩
  | 19 => ⟨S80x20000x2, .f32⟩
  | 20 => ⟨S80x20000x2, .f32⟩
  | 21 => ⟨S80x20000x2, .f32⟩
  | 22 => ⟨S_, .f32⟩
  | 23 => ⟨S80x20000x2, .f32⟩
  | 24 => ⟨S80x20000x2, .f32⟩
  | 25 => ⟨S80x20000x1, .f32⟩
  | 26 => ⟨S80x20000, .f32⟩
  | 27 => ⟨S80x20000x1, .f32⟩
  | 28 => ⟨S80x20000, .f32⟩
  | 29 => ⟨S80x20000, .f32⟩
  | 30 => ⟨S80x1, .f32⟩
  | 31 => ⟨S80, .f32⟩
  | 32 => ⟨S80x1, .f32⟩
  | 33 => ⟨S80, .f32⟩
  | 34 => ⟨S80, .f32⟩
  | 35 => ⟨S_, .f32⟩
  | 36 => ⟨S80, .f32⟩
  | 37 => ⟨S80, .f32⟩
  | 38 => ⟨S80x1, .f32⟩
  | 39 => ⟨S80, .f32⟩
  | 40 => ⟨S80x1, .f32⟩
  | 41 => ⟨S80, .f32⟩
  | 42 => ⟨S80, .f32⟩
  | 43 => ⟨S_, .f32⟩
  | 44 => ⟨S80, .f32⟩
  | 45 => ⟨S80, .f32⟩
  | 46 => ⟨S80, .f32⟩
  | 47 => ⟨S20000x1, .f32⟩
  | 48 => ⟨S20000, .f32⟩
  | 49 => ⟨S20000x1, .f32⟩
  | 50 => ⟨S20000, .f32⟩
  | 51 => ⟨S20000, .f32⟩
  | 52 => ⟨S_, .f32⟩
  | 53 => ⟨S20000, .f32⟩
  | 54 => ⟨S20000, .f32⟩
  | 55 => ⟨S20000x1, .f32⟩
  | 56 => ⟨S20000, .f32⟩
  | 57 => ⟨S20000x1, .f32⟩
  | 58 => ⟨S20000, .f32⟩
  | 59 => ⟨S20000, .f32⟩
  | 60 => ⟨S_, .f32⟩
  | 61 => ⟨S20000, .f32⟩
  | 62 => ⟨S20000, .f32⟩
  | 63 => ⟨S20000, .f32⟩
  | 64 => ⟨S1x20000, .f32⟩
  | 65 => ⟨S80x1, .f32⟩
  | 66 => ⟨S80x20000, .f32⟩
  | 67 => ⟨S80x20000, .f32⟩
  | 68 => ⟨S80x20000, .f32⟩
  | 69 => ⟨S80x20000, .f32⟩
  | 70 => ⟨S_, .f32⟩
  | 71 => ⟨S80x20000, .f32⟩
  | 72 => ⟨S80x20000, .f32⟩
  | 73 => ⟨S80x20000, .f32⟩
  | 74 => ⟨S_, .f32⟩
  | 75 => ⟨S80x20000, .f32⟩
  | 76 => ⟨S80x20000, .i1⟩
  | 77 => ⟨S1x20000, .i32⟩
  | 78 => ⟨S80x1, .i32⟩
  | 79 => ⟨S80x20000, .i32⟩
  | 80 => ⟨S80x20000, .i32⟩
  | 81 => ⟨S80x20000, .i1⟩
  | 82 => ⟨S80x20000, .i1⟩
  | 83 => ⟨S_, .f32⟩
  | 84 => ⟨S_, .f32⟩
  | 85 => ⟨S20000, .f32⟩
  | 86 => ⟨S80x20000, .f32⟩
  | 87 => ⟨S80x20000, .f32⟩
  | 88 => ⟨S_, .f32⟩
  | 89 => ⟨S4, .f32⟩
  | 90 => ⟨S80x4, .f32⟩
  | 91 => ⟨S80x4, .i1⟩
  | 92 => ⟨S80x4, .f32⟩
  | 93 => ⟨S_, .f32⟩
  | 94 => ⟨S_, .f32⟩
  | 95 => ⟨S80, .f32⟩
  | 96 => ⟨S80, .f32⟩
  | 97 => ⟨S1x80x4, .f32⟩
  | 98 => ⟨S_, .i32⟩
  | 99 => ⟨S_, .i32⟩
  | 100 => ⟨S100x80x4, .f32⟩
  | 101 => ⟨S1x80, .f32⟩
  | 102 => ⟨S_, .i32⟩
  | 103 => ⟨S100x80, .f32⟩
  | 104 => ⟨S_, .i32⟩
  | 105 => ⟨S_, .i32⟩
  | 106 => ⟨S80x100x4, .f32⟩
  | 107 => ⟨S80x100, .f32⟩
  | 108 => ⟨S80, .i32⟩
  | 109 => ⟨S_, .i32⟩
  | 110 => ⟨S80, .i32⟩
  | 111 => ⟨S80, .i32⟩
  | 112 => ⟨S80x1, .i32⟩
  | 113 => ⟨S80x100, .i32⟩
  | _ => ⟨S1x20000x81, .f32⟩

abbrev hbmTy (i : Nat) : BufTy := match i / 128 with
  | 0 => hbmTy0_0 i
  | 1 => hbmTy0_1 i
  | _ => ⟨S1x20000x81, .f32⟩

abbrev bufTy : (tb : Table) → Fin (tcTables nBuf tb) → BufTy
  | .hbm, ⟨i, _⟩ => hbmTy i
  | _, _ => ⟨S1x20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst_2 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_3 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_4 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_6 : Ref sig .tc := ⟨.hbm, 83, rfl⟩
abbrev main_v73 : Ref sig .tc := ⟨.hbm, 84, rfl⟩
abbrev main_v74 : Ref sig .tc := ⟨.hbm, 85, rfl⟩
abbrev main_cst_7 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v75 : Ref sig .tc := ⟨.hbm, 90, rfl⟩
abbrev main_v76 : Ref sig .tc := ⟨.hbm, 91, rfl⟩
abbrev main_cst_8 : Ref sig .tc := ⟨.hbm, 92, rfl⟩
abbrev main_v77 : Ref sig .tc := ⟨.hbm, 93, rfl⟩
abbrev main_cst_9 : Ref sig .tc := ⟨.hbm, 94, rfl⟩
abbrev main_v78 : Ref sig .tc := ⟨.hbm, 95, rfl⟩
abbrev main_c : Ref sig .tc := ⟨.hbm, 96, rfl⟩
abbrev main_v79_0 : Ref sig .tc := ⟨.hbm, 97, rfl⟩
abbrev main_v79_1 : Ref sig .tc := ⟨.hbm, 98, rfl⟩
abbrev main_v79_2 : Ref sig .tc := ⟨.hbm, 99, rfl⟩
abbrev main_v79_3 : Ref sig .tc := ⟨.hbm, 100, rfl⟩
abbrev main_v79_4 : Ref sig .tc := ⟨.hbm, 101, rfl⟩
abbrev main_v79_5 : Ref sig .tc := ⟨.hbm, 102, rfl⟩
abbrev main_while0c_c_16 : Ref sig .tc := ⟨.hbm, 103, rfl⟩
abbrev main_while0c_v87 : Ref sig .tc := ⟨.hbm, 104, rfl⟩
abbrev main_while0b_call1_v0 : Ref sig .tc := ⟨.hbm, 105, rfl⟩
abbrev main_while0b_call1_cst : Ref sig .tc := ⟨.hbm, 106, rfl⟩
abbrev main_while0b_call1_c : Ref sig .tc := ⟨.hbm, 107, rfl⟩
abbrev main_while0b_call1_v1_0 : Ref sig .tc := ⟨.hbm, 108, rfl⟩
abbrev main_while0b_v87 : Ref sig .tc := ⟨.hbm, 109, rfl⟩
abbrev main_while0b_cst_16 : Ref sig .tc := ⟨.hbm, 110, rfl⟩
abbrev main_while0b_v88 : Ref sig .tc := ⟨.hbm, 111, rfl⟩
abbrev main_while0b_cst_17 : Ref sig .tc := ⟨.hbm, 112, rfl⟩
abbrev main_while0b_v89 : Ref sig .tc := ⟨.hbm, 113, rfl⟩
abbrev main_while0b_v90 : Ref sig .tc := ⟨.hbm, 114, rfl⟩
abbrev main_while0b_c_18 : Ref sig .tc := ⟨.hbm, 115, rfl⟩
abbrev main_while0b_v91 : Ref sig .tc := ⟨.hbm, 116, rfl⟩
abbrev main_while0b_v92 : Ref sig .tc := ⟨.hbm, 117, rfl⟩
abbrev main_while0b_c_19 : Ref sig .tc := ⟨.hbm, 118, rfl⟩
abbrev main_while0b_v93 : Ref sig .tc := ⟨.hbm, 119, rfl⟩
abbrev main_while0b_v94 : Ref sig .tc := ⟨.hbm, 120, rfl⟩
abbrev main_while0b_v95 : Ref sig .tc := ⟨.hbm, 121, rfl⟩
abbrev main_while0b_c_20 : Ref sig .tc := ⟨.hbm, 122, rfl⟩
abbrev main_while0b_c_21 : Ref sig .tc := ⟨.hbm, 123, rfl⟩
abbrev main_while0b_v96 : Ref sig .tc := ⟨.hbm, 124, rfl⟩
abbrev main_while0b_c_22 : Ref sig .tc := ⟨.hbm, 125, rfl⟩
abbrev main_while0b_c_23 : Ref sig .tc := ⟨.hbm, 126, rfl⟩
abbrev main_while0b_v97 : Ref sig .tc := ⟨.hbm, 127, rfl⟩
abbrev main_while0b_c_24 : Ref sig .tc := ⟨.hbm, 128, rfl⟩
abbrev main_while0b_v98 : Ref sig .tc := ⟨.hbm, 129, rfl⟩
abbrev main_while0b_v99 : Ref sig .tc := ⟨.hbm, 130, rfl⟩
abbrev main_while0b_v100 : Ref sig .tc := ⟨.hbm, 131, rfl⟩
abbrev main_while0b_v101 : Ref sig .tc := ⟨.hbm, 132, rfl⟩
abbrev main_while0b_v102 : Ref sig .tc := ⟨.hbm, 133, rfl⟩
abbrev main_while0b_v103 : Ref sig .tc := ⟨.hbm, 134, rfl⟩
abbrev main_while0b_v104 : Ref sig .tc := ⟨.hbm, 135, rfl⟩
abbrev main_while0b_v105 : Ref sig .tc := ⟨.hbm, 136, rfl⟩
abbrev main_while0b_v106 : Ref sig .tc := ⟨.hbm, 137, rfl⟩
abbrev main_while0b_v107 : Ref sig .tc := ⟨.hbm, 138, rfl⟩
abbrev main_while0b_v108 : Ref sig .tc := ⟨.hbm, 139, rfl⟩
abbrev main_while0b_v109 : Ref sig .tc := ⟨.hbm, 140, rfl⟩
abbrev main_while0b_v110 : Ref sig .tc := ⟨.hbm, 141, rfl⟩
abbrev main_while0b_v111 : Ref sig .tc := ⟨.hbm, 142, rfl⟩
abbrev main_while0b_v112 : Ref sig .tc := ⟨.hbm, 143, rfl⟩
abbrev main_while0b_v113 : Ref sig .tc := ⟨.hbm, 144, rfl⟩
abbrev main_while0b_v114 : Ref sig .tc := ⟨.hbm, 145, rfl⟩
abbrev main_while0b_v115 : Ref sig .tc := ⟨.hbm, 146, rfl⟩
abbrev main_while0b_v116 : Ref sig .tc := ⟨.hbm, 147, rfl⟩
abbrev main_while0b_v117 : Ref sig .tc := ⟨.hbm, 148, rfl⟩
abbrev main_while0b_v118 : Ref sig .tc := ⟨.hbm, 149, rfl⟩
abbrev main_while0b_cst_25 : Ref sig .tc := ⟨.hbm, 150, rfl⟩
abbrev main_while0b_v119 : Ref sig .tc := ⟨.hbm, 151, rfl⟩
abbrev main_while0b_v120 : Ref sig .tc := ⟨.hbm, 152, rfl⟩
abbrev main_while0b_v121 : Ref sig .tc := ⟨.hbm, 153, rfl⟩
abbrev main_while0b_v122 : Ref sig .tc := ⟨.hbm, 154, rfl⟩
abbrev main_while0b_v123 : Ref sig .tc := ⟨.hbm, 155, rfl⟩
abbrev main_while0b_v124 : Ref sig .tc := ⟨.hbm, 156, rfl⟩
abbrev main_while0b_v125 : Ref sig .tc := ⟨.hbm, 157, rfl⟩
abbrev main_while0b_v126 : Ref sig .tc := ⟨.hbm, 158, rfl⟩
abbrev main_while0b_v127 : Ref sig .tc := ⟨.hbm, 159, rfl⟩
abbrev main_while0b_v128 : Ref sig .tc := ⟨.hbm, 160, rfl⟩
abbrev main_while0b_v129 : Ref sig .tc := ⟨.hbm, 161, rfl⟩
abbrev main_while0b_v130 : Ref sig .tc := ⟨.hbm, 162, rfl⟩
abbrev main_while0b_cst_26 : Ref sig .tc := ⟨.hbm, 163, rfl⟩
abbrev main_while0b_v131 : Ref sig .tc := ⟨.hbm, 164, rfl⟩
abbrev main_while0b_v132 : Ref sig .tc := ⟨.hbm, 165, rfl⟩
abbrev main_while0b_v133 : Ref sig .tc := ⟨.hbm, 166, rfl⟩
abbrev main_while0b_v134 : Ref sig .tc := ⟨.hbm, 167, rfl⟩
abbrev main_while0b_v135 : Ref sig .tc := ⟨.hbm, 168, rfl⟩
abbrev main_while0b_v136 : Ref sig .tc := ⟨.hbm, 169, rfl⟩
abbrev main_while0b_v137 : Ref sig .tc := ⟨.hbm, 170, rfl⟩
abbrev main_while0b_cst_27 : Ref sig .tc := ⟨.hbm, 171, rfl⟩
abbrev main_while0b_v138 : Ref sig .tc := ⟨.hbm, 172, rfl⟩
abbrev main_while0b_v139 : Ref sig .tc := ⟨.hbm, 173, rfl⟩
abbrev main_while0b_v140 : Ref sig .tc := ⟨.hbm, 174, rfl⟩
abbrev main_while0b_v141 : Ref sig .tc := ⟨.hbm, 175, rfl⟩
abbrev main_while0b_v142 : Ref sig .tc := ⟨.hbm, 176, rfl⟩
abbrev main_while0b_v143 : Ref sig .tc := ⟨.hbm, 177, rfl⟩
abbrev main_while0b_v144 : Ref sig .tc := ⟨.hbm, 178, rfl⟩
abbrev main_while0b_v145 : Ref sig .tc := ⟨.hbm, 179, rfl⟩
abbrev main_while0b_cst_28 : Ref sig .tc := ⟨.hbm, 180, rfl⟩
abbrev main_while0b_v146 : Ref sig .tc := ⟨.hbm, 181, rfl⟩
abbrev main_while0b_v147 : Ref sig .tc := ⟨.hbm, 182, rfl⟩
abbrev main_while0b_v148 : Ref sig .tc := ⟨.hbm, 183, rfl⟩
abbrev main_while0b_v149 : Ref sig .tc := ⟨.hbm, 184, rfl⟩
abbrev main_while0b_v150 : Ref sig .tc := ⟨.hbm, 185, rfl⟩
abbrev main_while0b_v151 : Ref sig .tc := ⟨.hbm, 186, rfl⟩
abbrev main_while0b_v152 : Ref sig .tc := ⟨.hbm, 187, rfl⟩
abbrev main_while0b_cst_29 : Ref sig .tc := ⟨.hbm, 188, rfl⟩
abbrev main_while0b_v153 : Ref sig .tc := ⟨.hbm, 189, rfl⟩
abbrev main_while0b_v154 : Ref sig .tc := ⟨.hbm, 190, rfl⟩
abbrev main_while0b_v155 : Ref sig .tc := ⟨.hbm, 191, rfl⟩
abbrev main_while0b_v156 : Ref sig .tc := ⟨.hbm, 192, rfl⟩
abbrev main_while0b_v157 : Ref sig .tc := ⟨.hbm, 193, rfl⟩
abbrev main_while0b_v158 : Ref sig .tc := ⟨.hbm, 194, rfl⟩
abbrev main_while0b_v159 : Ref sig .tc := ⟨.hbm, 195, rfl⟩
abbrev main_while0b_v160 : Ref sig .tc := ⟨.hbm, 196, rfl⟩
abbrev main_while0b_v161 : Ref sig .tc := ⟨.hbm, 197, rfl⟩
abbrev main_while0b_cst_30 : Ref sig .tc := ⟨.hbm, 198, rfl⟩
abbrev main_while0b_v162 : Ref sig .tc := ⟨.hbm, 199, rfl⟩
abbrev main_while0b_v163 : Ref sig .tc := ⟨.hbm, 200, rfl⟩
abbrev main_while0b_v164 : Ref sig .tc := ⟨.hbm, 201, rfl⟩
abbrev main_while0b_cst_31 : Ref sig .tc := ⟨.hbm, 202, rfl⟩
abbrev main_while0b_v165 : Ref sig .tc := ⟨.hbm, 203, rfl⟩
abbrev main_while0b_v166 : Ref sig .tc := ⟨.hbm, 204, rfl⟩
abbrev main_while0b_v167 : Ref sig .tc := ⟨.hbm, 205, rfl⟩
abbrev main_while0b_v168 : Ref sig .tc := ⟨.hbm, 206, rfl⟩
abbrev main_while0b_v169 : Ref sig .tc := ⟨.hbm, 207, rfl⟩
abbrev main_while0b_v170 : Ref sig .tc := ⟨.hbm, 208, rfl⟩
abbrev main_while0b_v171 : Ref sig .tc := ⟨.hbm, 209, rfl⟩
abbrev main_while0b_v172 : Ref sig .tc := ⟨.hbm, 210, rfl⟩
abbrev main_while0b_cst_32 : Ref sig .tc := ⟨.hbm, 211, rfl⟩
abbrev main_while0b_call2_v0 : Ref sig .tc := ⟨.hbm, 212, rfl⟩
abbrev main_while0b_call2_v1 : Ref sig .tc := ⟨.hbm, 213, rfl⟩
abbrev main_while0b_call2_v2 : Ref sig .tc := ⟨.hbm, 214, rfl⟩
abbrev main_while0b_v173 : Ref sig .tc := ⟨.hbm, 215, rfl⟩
abbrev main_while0b_cst_33 : Ref sig .tc := ⟨.hbm, 216, rfl⟩
abbrev main_while0b_v174 : Ref sig .tc := ⟨.hbm, 217, rfl⟩
abbrev main_while0b_call3_v0 : Ref sig .tc := ⟨.hbm, 218, rfl⟩
abbrev main_while0b_call3_v1 : Ref sig .tc := ⟨.hbm, 219, rfl⟩
abbrev main_while0b_v175 : Ref sig .tc := ⟨.hbm, 220, rfl⟩
abbrev main_while0b_cst_34 : Ref sig .tc := ⟨.hbm, 221, rfl⟩
abbrev main_while0b_call4_v0 : Ref sig .tc := ⟨.hbm, 222, rfl⟩
abbrev main_while0b_call4_v1 : Ref sig .tc := ⟨.hbm, 223, rfl⟩
abbrev main_while0b_v176 : Ref sig .tc := ⟨.hbm, 224, rfl⟩
abbrev main_while0b_call5_v0 : Ref sig .tc := ⟨.hbm, 225, rfl⟩
abbrev main_while0b_call5_c : Ref sig .tc := ⟨.hbm, 226, rfl⟩
abbrev main_while0b_call5_c_0 : Ref sig .tc := ⟨.hbm, 227, rfl⟩
abbrev main_while0b_v177 : Ref sig .tc := ⟨.hbm, 228, rfl⟩
abbrev main_while0b_call6_v0 : Ref sig .tc := ⟨.hbm, 229, rfl⟩
abbrev main_while0b_call6_c : Ref sig .tc := ⟨.hbm, 230, rfl⟩
abbrev main_while0b_v178 : Ref sig .tc := ⟨.hbm, 231, rfl⟩
abbrev main_while0b_c_35 : Ref sig .tc := ⟨.hbm, 232, rfl⟩
abbrev main_while0b_v179 : Ref sig .tc := ⟨.hbm, 233, rfl⟩
abbrev main_v80 : Ref sig .tc := ⟨.hbm, 234, rfl⟩
abbrev main_v81 : Ref sig .tc := ⟨.hbm, 235, rfl⟩
abbrev main_v82 : Ref sig .tc := ⟨.hbm, 236, rfl⟩
abbrev main_c_10 : Ref sig .tc := ⟨.hbm, 237, rfl⟩
abbrev main_v83 : Ref sig .tc := ⟨.hbm, 238, rfl⟩
abbrev main_v84 : Ref sig .tc := ⟨.hbm, 239, rfl⟩
abbrev main_v85 : Ref sig .tc := ⟨.hbm, 240, rfl⟩
abbrev main_v86 : Ref sig .tc := ⟨.hbm, 241, rfl⟩

abbrev nD : Nat := 1
abbrev τ : Topo := Topo.v7x

variable {F : FTy → Type} [FloatOps F]

abbrev main_while0_count : Scf.Loop 32 := ⟨0#32, 100#32, 1#32⟩
-- ==== Proof.Decode.lean ====
/-
  The decoding kernel (region 0): it has one grid point and thirteen whole-array windows, eight read and five written.
  Its body is run once by the executor; the five buffers it leaves are the witnesses of that run.
-/
module

public import proofs.«01_k».proof.Proof.Gen.KernelIdeal.Launch
public import proofs.«01_k».proof.Proof.Gen.KernelIdeal.Regions
public import Idealize.ShloMosaic.Lib.Tactic

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The contents of the buffer a memref is over, on core `c`. -/
abbrev Cts (c : Dev nD) {sp : Space} {S : Shape} {e : EltTy} (M : Memref sig .tc sp S e) : Type :=
  Buf (Elt F) (M.view.loc (c : Thread nD τ))

/-- A memref's buffer, held whole at given contents. -/
abbrev own (c : Dev nD) {sp : Space} {S : Shape} {e : EltTy} (M : Memref sig .tc sp S e) (f : Cts (F := F) c M) : sProp 𝕄 :=
  M.view.loc (c : Thread nD τ) ↦{fullShare} f

set_option maxHeartbeats 4000000 in
/-- The decoding body run: from eight inputs held at `f0 … f7` and five outputs held at anything, it returns the
    inputs as they were and the outputs at the five witnesses. -/
noncomputable def decodeRun (c : Dev nD)
    (M0 : Memref sig .tc .vmem S160x128 .f32) (h0 : M0.IsWhole) (M1 : Memref sig .tc .vmem S160x128 .f32) (h1 : M1.IsWhole)
    (M2 : Memref sig .tc .vmem S160x128 .f32) (h2 : M2.IsWhole) (M3 : Memref sig .tc .vmem S160x128 .f32) (h3 : M3.IsWhole)
    (M4 : Memref sig .tc .vmem S160x128 .f32) (h4 : M4.IsWhole) (M5 : Memref sig .tc .vmem S160x128 .f32) (h5 : M5.IsWhole)
    (M6 : Memref sig .tc .vmem S160x128 .f32) (h6 : M6.IsWhole) (M7 : Memref sig .tc .vmem S160x128 .f32) (h7 : M7.IsWhole)
    (M8 : Memref sig .tc .vmem S160x128 .f32) (h8 : M8.IsWhole) (M9 : Memref sig .tc .vmem S160x128 .f32) (h9 : M9.IsWhole)
    (M10 : Memref sig .tc .vmem S160x128 .f32) (h10 : M10.IsWhole) (M11 : Memref sig .tc .vmem S160x128 .f32) (h11 : M11.IsWhole)
    (M12 : Memref sig .tc .vmem S160x128 .f32) (h12 : M12.IsWhole)
    (f0 : Cts (F := F) c M0) (f1 : Cts (F := F) c M1) (f2 : Cts (F := F) c M2) (f3 : Cts (F := F) c M3)
    (f4 : Cts (F := F) c M4) (f5 : Cts (F := F) c M5) (f6 : Cts (F := F) c M6) (f7 : Cts (F := F) c M7) :
    Σ' (W8 : Cts (F := F) c M8) (W9 : Cts (F := F) c M9) (W10 : Cts (F := F) c M10) (W11 : Cts (F := F) c M11),
    { W12 : Cts (F := F) c M12 //
      ∀ (f8 : Cts (F := F) c M8) (f9 : Cts (F := F) c M9) (f10 : Cts (F := F) c M10) (f11 : Cts (F := F) c M11)
        (f12 : Cts (F := F) c M12) (E : Set ℕ) (Q : PUnit → sProp 𝕄),
        iprop(own c M0 f0 ∗ own c M1 f1 ∗ own c M2 f2 ∗ own c M3 f3 ∗ own c M4 f4 ∗ own c M5 f5 ∗ own c M6 f6 ∗ own c M7 f7
            ∗ own c M8 f8 ∗ own c M9 f9 ∗ own c M10 f10 ∗ own c M11 f11 ∗ own c M12 f12
            ∗ (iprop(own c M0 f0 ∗ own c M1 f1 ∗ own c M2 f2 ∗ own c M3 f3 ∗ own c M4 f4 ∗ own c M5 f5 ∗ own c M6 f6 ∗ own c M7 f7
                ∗ own c M8 W8 ∗ own c M9 W9 ∗ own c M10 W10 ∗ own c M11 W11 ∗ own c M12 W12) -∗ Q ⟨⟩))
          ⊢ wp frame (wpE (defs₀ (F := F)) Variants.none c none) E
              (cc0__decode_body M0 h0 M1 h1 M2 h2 M3 h3 M4 h4 M5 h5 M6 h6 M7 h7 M8 h8 M9 h9 M10 h10 M11 h11 M12 h12) Q } := by
  refine ⟨?_, ?_, ?_, ?_, ?_, fun f8 f9 f10 f11 f12 E Q => ?run⟩
  case run =>
    iintro ⟨H0, H1, H2, H3, H4, H5, H6, H7, H8, H9, H10, H11, H12, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

variable (V : (c : Dev nD) → (b : Ref sig .tc) → Buf (Elt F) ((c : Thread nD τ).loc b))

/-- The block a window of the decoding kernel fetches at its only point. -/
abbrev dblk (c : Dev nD) (w : Fin 13) : ((cfg0.win w).xblock (cfg0.grid.coords t0_0)).Idx → Elt F (cfg0.win w).elt :=
  ((cfg0.win w).blk t0_0).view.read (Elt F) (V c (Pipeline.arrRef spec0 w))

/-- The run on the staged blocks. -/
abbrev decoded (c : Dev nD) := decodeRun (F := F) c (stage0_0 0) (hstage0_0 0) (stage0_1 0) (hstage0_1 0)
  (stage0_2 0) (hstage0_2 0) (stage0_3 0) (hstage0_3 0) (stage0_4 0) (hstage0_4 0) (stage0_5 0) (hstage0_5 0)
  (stage0_6 0) (hstage0_6 0) (stage0_7 0) (hstage0_7 0) (stage0_8 0) (hstage0_8 0) (stage0_9 0) (hstage0_9 0)
  (stage0_10 0) (hstage0_10 0) (stage0_11 0) (hstage0_11 0) (stage0_12 0) (hstage0_12 0)
  (dblk V c 0) (dblk V c 1) (dblk V c 2) (dblk V c 3) (dblk V c 4) (dblk V c 5) (dblk V c 6) (dblk V c 7)

/-- The proof data of the decoding region entered at valuation `V`. -/
def dat0 (c : Dev nD) : Dat τ (Elt F) Unit ℕ (UR sig nD τ) ℕ cfg0 c where
  A w := V c (Pipeline.arrRef spec0 w)
  after w _ := match w with
    | ⟨0, _⟩ => dblk V c 0
    | ⟨1, _⟩ => dblk V c 1
    | ⟨2, _⟩ => dblk V c 2
    | ⟨3, _⟩ => dblk V c 3
    | ⟨4, _⟩ => dblk V c 4
    | ⟨5, _⟩ => dblk V c 5
    | ⟨6, _⟩ => dblk V c 6
    | ⟨7, _⟩ => dblk V c 7
    | ⟨8, _⟩ => (decoded V c).1
    | ⟨9, _⟩ => (decoded V c).2.1
    | ⟨10, _⟩ => (decoded V c).2.2.1
    | ⟨11, _⟩ => (decoded V c).2.2.2.1
    | ⟨12, _⟩ => (decoded V c).2.2.2.2.1
  Φ _ := Pipeline.scopedRest (Ix := Unit) (Name := ℕ) (U := UR sig nD τ) (Lvl := ℕ) (Val := Elt F) spec0 c
  q _ := fullShare
  owed _ := 0

/-- Each fetched window holds its block when the body runs. -/
theorem before0 (c : Dev nD) :
    (∀ d, (dat0 V c).before 0 t0_0 d = dblk V c 0) ∧ (∀ d, (dat0 V c).before 1 t0_0 d = dblk V c 1)
      ∧ (∀ d, (dat0 V c).before 2 t0_0 d = dblk V c 2) ∧ (∀ d, (dat0 V c).before 3 t0_0 d = dblk V c 3)
      ∧ (∀ d, (dat0 V c).before 4 t0_0 d = dblk V c 4) ∧ (∀ d, (dat0 V c).before 5 t0_0 d = dblk V c 5)
      ∧ (∀ d, (dat0 V c).before 6 t0_0 d = dblk V c 6) ∧ (∀ d, (dat0 V c).before 7 t0_0 d = dblk V c 7) := by
  refine ⟨?_, ?_, ?_, ?_, ?_, ?_, ?_, ?_⟩ <;> intro d <;> (unfold Dat.before; rw [if_pos (by decide)]; rfl)

set_option maxHeartbeats 4000000 in
/-- The body's obligation in the pipeline library's form. -/
theorem body0 (c : Dev nD) : BodyObligation (dat0 V c) (defs₀ (F := F)) Variants.none () Set.univ := fun t => by
  obtain rfl := fin_N0 t
  rw [bigSep_W0, bigSep_W0]
  simp only [owns_whole_eq]
  rw [show (dat0 V c).Φ t0_0.castSucc = Pipeline.scopedRest spec0 c from rfl, show (dat0 V c).Φ t0_0.succ = Pipeline.scopedRest spec0 c from rfl,
    show (dat0 V c).owesAt () t0_0.succ = (dat0 V c).owesAt () t0_0.castSucc from rfl]
  iintro ⟨HΦ, Howes, ⟨%d0, %f0, %e0, H0⟩, ⟨%d1, %f1, %e1, H1⟩, ⟨%d2, %f2, %e2, H2⟩, ⟨%d3, %f3, %e3, H3⟩,
    ⟨%d4, %f4, %e4, H4⟩, ⟨%d5, %f5, %e5, H5⟩, ⟨%d6, %f6, %e6, H6⟩, ⟨%d7, %f7, %e7, H7⟩,
    ⟨%d8, %f8, -, H8⟩, ⟨%d9, %f9, -, H9⟩, ⟨%d10, %f10, -, H10⟩, ⟨%d11, %f11, -, H11⟩, ⟨%d12, %f12, -, H12⟩⟩
  obtain ⟨b0, b1, b2, b3, b4, b5, b6, b7⟩ := before0 V c
  rw [b0] at e0; rw [b1] at e1; rw [b2] at e2; rw [b3] at e3
  rw [b4] at e4; rw [b5] at e5; rw [b6] at e6; rw [b7] at e7
  subst e0 e1 e2 e3 e4 e5 e6 e7
  iapply ((decoded V c).2.2.2.2.2 f8 f9 f10 f11 f12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  isplitl [H4]; · iexists _; isplitr; swap; (· iexact H4); ipureintro; dsimp only [dat0]
  isplitl [H5]; · iexists _; isplitr; swap; (· iexact H5); ipureintro; dsimp only [dat0]
  isplitl [H6]; · iexists _; isplitr; swap; (· iexact H6); ipureintro; dsimp only [dat0]
  isplitl [H7]; · iexists _; isplitr; swap; (· iexact H7); ipureintro; dsimp only [dat0]
  isplitl [H8]; · iexists _; isplitr; swap; (· iexact H8); ipureintro; dsimp only [dat0]
  isplitl [H9]; · iexists _; isplitr; swap; (· iexact H9); ipureintro; dsimp only [dat0]
  isplitl [H10]; · iexists _; isplitr; swap; (· iexact H10); ipureintro; dsimp only [dat0]
  isplitl [H11]; · iexists _; isplitr; swap; (· iexact H11); ipureintro; dsimp only [dat0]
  iexists _; isplitr; swap; (· iexact H12); ipureintro; dsimp only [dat0]

end Cert.Proof.K

end
-- ==== Proof.Nms.lean ====
/-
  The suppression kernel (region 1): its grid has five points, one per sixteen classes.  Its body is run once by the
  executor; the two result buffers end as what they held with the pieces of the hundred trips written over it.
-/
module

public import proofs.«01_k».proof.Proof.Decode
public import proofs.«01_k».proof.Proof.Gen.KernelIdeal.Loops
public import proofs.«01_k».proof.Proof.Gen.KernelIdeal.Points
public import Idealize.ShloMosaic.Lib.Pipeline.DatRel
public import Idealize.ShloMosaic.Lib.Pipeline.FrameBody

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The part of a buffer a memref views, held at given contents. -/
abbrev vw (c : Dev nD) {sp : Space} {S : Shape} {e : EltTy} (M : Memref sig .tc sp S e) (f : Cts (F := F) c M) : sProp 𝕄 :=
  M.view.loc (c : Thread nD τ) ↦[M.view.set]{fullShare} f

set_option maxHeartbeats 4000000 in
/-- The suppression body run at grid point `i`: from six inputs held at `f1 … f6` and two outputs held at anything, it
    returns the inputs as they were and each output with its list of pieces written over what it held. -/
noncomputable def nmsRun (c : Dev nD) (i : grid1.Coords)
    (M1 : Memref sig .tc .vmem S16x160x128 .f32) (h1 : M1.IsWhole)
    (M2 : Memref sig .tc .vmem S160x128 .f32) (h2 : M2.IsWhole) (M3 : Memref sig .tc .vmem S160x128 .f32) (h3 : M3.IsWhole)
    (M4 : Memref sig .tc .vmem S160x128 .f32) (h4 : M4.IsWhole) (M5 : Memref sig .tc .vmem S160x128 .f32) (h5 : M5.IsWhole)
    (M6 : Memref sig .tc .vmem S160x128 .f32) (h6 : M6.IsWhole) (M7 : Memref sig .tc .vmem S16x104x128 .f32) (h7 : M7.IsWhole)
    (M8 : Memref sig .tc .vmem S16x104x8 .f32) (h8 : M8.IsWhole)
    (f1 : Cts (F := F) c M1) (f2 : Cts (F := F) c M2) (f3 : Cts (F := F) c M3)
    (f4 : Cts (F := F) c M4) (f5 : Cts (F := F) c M5) (f6 : Cts (F := F) c M6) :
    Σ' (L7 : List (View.Piece (Elt F) S16x104x128 .f32)),
    { L8 : List (View.Piece (Elt F) S16x104x8 .f32) //
      ∀ (f7 : Cts (F := F) c M7) (f8 : Cts (F := F) c M8) (E : Set ℕ) (Q : PUnit → sProp 𝕄),
        iprop(vw c M1 f1 ∗ vw c M2 f2 ∗ vw c M3 f3 ∗ vw c M4 f4 ∗ vw c M5 f5 ∗ vw c M6 f6 ∗ vw c M7 f7 ∗ vw c M8 f8
            ∗ (iprop(vw c M1 f1 ∗ vw c M2 f2 ∗ vw c M3 f3 ∗ vw c M4 f4 ∗ vw c M5 f5 ∗ vw c M6 f6
                ∗ vw c M7 (M7.view.writes (Elt F) f7 L7) ∗ vw c M8 (M8.view.writes (Elt F) f8 L8)) -∗ Q ⟨⟩))
          ⊢ wp frame (wpE (defs₀ (F := F)) Variants.none c none) E
              (cc1__nms_body i M1 h1 M2 h2 M3 h3 M4 h4 M5 h5 M6 h6 M7 h7 M8 h8) Q } := by
  refine ⟨?_, ?_, fun f7 f8 E Q => ?run⟩
  case run =>
    iintro ⟨H1, H2, H3, H4, H5, H6, H7, H8, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

variable (V : (c : Dev nD) → (b : Ref sig .tc) → Buf (Elt F) ((c : Thread nD τ).loc b))

/-- The block a window of the suppression kernel stages at point `t`. -/
abbrev nblk (c : Dev nD) (w : Fin 8) (t : Fin cfg1.N) : ((cfg1.win w).xblock (cfg1.grid.coords t)).Idx → Elt F (cfg1.win w).elt :=
  ((cfg1.win w).blk t).view.read (Elt F) (V c (Pipeline.arrRef spec1 w))

/-- The run at point `t` on given contents of the six input buffers. -/
abbrev suppressed (c : Dev nD) (t : Fin cfg1.N) (f0 : Cts (F := F) c (st1_0 t)) (f1 : Cts (F := F) c (st1_1 t)) (f2 : Cts (F := F) c (st1_2 t))
    (f3 : Cts (F := F) c (st1_3 t)) (f4 : Cts (F := F) c (st1_4 t)) (f5 : Cts (F := F) c (st1_5 t)) :=
  nmsRun (F := F) c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (st1_6 t) (hstage1_6 ((cfg1.slots t 6).cast nbuf1_6)) (st1_7 t) (hstage1_7 ((cfg1.slots t 7).cast nbuf1_7)) f0 f1 f2 f3 f4 f5

/-- The six input buffers read the blocks staged at point `t`. -/
structure Reads (c : Dev nD) (t : Fin cfg1.N) (f0 : Cts (F := F) c (st1_0 t)) (f1 : Cts (F := F) c (st1_1 t)) (f2 : Cts (F := F) c (st1_2 t))
    (f3 : Cts (F := F) c (st1_3 t)) (f4 : Cts (F := F) c (st1_4 t)) (f5 : Cts (F := F) c (st1_5 t)) : Prop where
  r0 : (st1_0 t).view.read (Elt F) f0 = nblk V c 0 t
  r1 : (st1_1 t).view.read (Elt F) f1 = nblk V c 1 t
  r2 : (st1_2 t).view.read (Elt F) f2 = nblk V c 2 t
  r3 : (st1_3 t).view.read (Elt F) f3 = nblk V c 3 t
  r4 : (st1_4 t).view.read (Elt F) f4 = nblk V c 4 t
  r5 : (st1_5 t).view.read (Elt F) f5 = nblk V c 5 t

/-- What the body may leave in the staging buffer of a result window at point `t`. -/
def Left (c : Dev nD) : (w : Fin 8) → (t : Fin cfg1.N) → ((cfg1.win w).block.Idx → Elt F (cfg1.win w).elt) → Prop
  | ⟨6, _⟩, t, X => ∃ f0 f1 f2 f3 f4 f5, Reads V c t f0 f1 f2 f3 f4 f5 ∧
      ∃ g : Cts (F := F) c (st1_6 t), X = (st1_6 t).view.read (Elt F) ((st1_6 t).view.writes (Elt F) g (suppressed c t f0 f1 f2 f3 f4 f5).1)
  | ⟨7, _⟩, t, X => ∃ f0 f1 f2 f3 f4 f5, Reads V c t f0 f1 f2 f3 f4 f5 ∧
      ∃ g : Cts (F := F) c (st1_7 t), X = (st1_7 t).view.read (Elt F) ((st1_7 t).view.writes (Elt F) g (suppressed c t f0 f1 f2 f3 f4 f5).2.1)
  | _, _, _ => True

/-- The two result windows, of which the body leaves some rows as it found them. -/
abbrev loose1 (w : Fin 8) : Bool := match w with
  | ⟨6, _⟩ => true
  | ⟨7, _⟩ => true
  | _ => false

/-- The proof data of the suppression region entered at valuation `V`. -/
def dat1 (c : Dev nD) : Dat τ (Elt F) Unit ℕ (UR sig nD τ) ℕ cfg1 c where
  A w := V c (Pipeline.arrRef spec1 w)
  after w t := match w with
    | ⟨0, _⟩ => nblk V c 0 t
    | ⟨1, _⟩ => nblk V c 1 t
    | ⟨2, _⟩ => nblk V c 2 t
    | ⟨3, _⟩ => nblk V c 3 t
    | ⟨4, _⟩ => nblk V c 4 t
    | ⟨5, _⟩ => nblk V c 5 t
    | ⟨6, _⟩ => fun _ => Classical.arbitrary _
    | ⟨7, _⟩ => fun _ => Classical.arbitrary _
  Φ _ := Pipeline.scopedRest (Ix := Unit) (Name := ℕ) (U := UR sig nD τ) (Lvl := ℕ) (Val := Elt F) spec1 c
  q _ := fullShare
  owed _ := 0

/-- Each input window holds its block when the body runs, fetched there or not. -/
theorem before1 (c : Dev nD) (t : Fin cfg1.N) :
    (∀ d, (dat1 V c).before 0 t d = nblk V c 0 t) ∧ (∀ d, (dat1 V c).before 1 t d = nblk V c 1 t)
      ∧ (∀ d, (dat1 V c).before 2 t d = nblk V c 2 t) ∧ (∀ d, (dat1 V c).before 3 t d = nblk V c 3 t)
      ∧ (∀ d, (dat1 V c).before 4 t d = nblk V c 4 t) ∧ (∀ d, (dat1 V c).before 5 t d = nblk V c 5 t) := by
  refine ⟨fun d => ?_, fun d => ?_, fun d => ?_, fun d => ?_, fun d => ?_, fun d => ?_⟩
  · exact (dat1 V c).before_in_eq_fetched 0 rfl (fun _ => rfl) (fun _ _ _ => rfl) (fun _ => rfl) t d
  · exact (dat1 V c).before_in_eq_fetched 1 rfl (fun _ => rfl) (fun _ _ _ => rfl) (fun _ => rfl) t d
  · exact (dat1 V c).before_in_eq_fetched 2 rfl (fun _ => rfl) (fun _ _ _ => rfl) (fun _ => rfl) t d
  · exact (dat1 V c).before_in_eq_fetched 3 rfl (fun _ => rfl) (fun _ _ _ => rfl) (fun _ => rfl) t d
  · exact (dat1 V c).before_in_eq_fetched 4 rfl (fun _ => rfl) (fun _ _ _ => rfl) (fun _ => rfl) t d
  · exact (dat1 V c).before_in_eq_fetched 5 rfl (fun _ => rfl) (fun _ _ _ => rfl) (fun _ => rfl) t d

/-- A staging buffer of region 1 read whole at given contents. -/
abbrev rd1 (c : Dev nD) (w : Fin 8) (t : Fin cfg1.N) (X : (cfg1.win w).block.Idx → Elt F (cfg1.win w).elt) : sProp 𝕄 :=
  owns (c : Thread nD τ) ((cfg1.win w).stage (cfg1.slots t w)) fullShare X

set_option maxHeartbeats 4000000 in
/-- The body's obligation in the pipeline library's relational form. -/
theorem body1 (c : Dev nD) :
    Pipeline.BodyObligationRel (dat1 V c) (defs₀ (F := F)) Variants.none () Set.univ loose1 (Left V c) := fun t => by
  rw [bigSep_W1, bigSep_W1]
  refine (show iprop((dat1 V c).Φ t.castSucc ∗ (dat1 V c).owesAt () t.castSucc
      ∗ (∃ d, rd1 c 0 t ((dat1 V c).before 0 t d)) ∗ (∃ d, rd1 c 1 t ((dat1 V c).before 1 t d)) ∗ (∃ d, rd1 c 2 t ((dat1 V c).before 2 t d))
      ∗ (∃ d, rd1 c 3 t ((dat1 V c).before 3 t d)) ∗ (∃ d, rd1 c 4 t ((dat1 V c).before 4 t d)) ∗ (∃ d, rd1 c 5 t ((dat1 V c).before 5 t d))
      ∗ (∃ Y, ⌜((dat1 V c).toRRel loose1 (Left V c)).Finds 6 t Y⌝ ∗ rd1 c 6 t Y)
      ∗ (∃ Y, ⌜((dat1 V c).toRRel loose1 (Left V c)).Finds 7 t Y⌝ ∗ rd1 c 7 t Y))
    ⊢ wp frame (wpE (defs₀ (F := F)) Variants.none c none) Set.univ (bodyAt1 t) fun _ =>
      iprop((dat1 V c).Φ t.succ ∗ (dat1 V c).owesAt () t.succ
      ∗ rd1 c 0 t (nblk V c 0 t) ∗ rd1 c 1 t (nblk V c 1 t) ∗ rd1 c 2 t (nblk V c 2 t)
      ∗ rd1 c 3 t (nblk V c 3 t) ∗ rd1 c 4 t (nblk V c 4 t) ∗ rd1 c 5 t (nblk V c 5 t)
      ∗ (∃ X, ⌜Left V c 6 t X⌝ ∗ rd1 c 6 t X) ∗ (∃ X, ⌜Left V c 7 t X⌝ ∗ rd1 c 7 t X)) from ?_)
  obtain ⟨b0, b1, b2, b3, b4, b5⟩ := before1 V c t
  simp only [b0, b1, b2, b3, b4, b5]
  unfold rd1 owns
  rw [show (dat1 V c).Φ t.castSucc = Pipeline.scopedRest spec1 c from rfl, show (dat1 V c).Φ t.succ = Pipeline.scopedRest spec1 c from rfl,
    show (dat1 V c).owesAt () t.succ = (dat1 V c).owesAt () t.castSucc from rfl]
  iintro ⟨HΦ, Howes, ⟨%d0, %f0, %e0, H0⟩, ⟨%d1, %f1, %e1, H1⟩, ⟨%d2, %f2, %e2, H2⟩, ⟨%d3, %f3, %e3, H3⟩,
    ⟨%d4, %f4, %e4, H4⟩, ⟨%d5, %f5, %e5, H5⟩, ⟨%Y6, -, %f6, -, H6⟩, ⟨%Y7, -, %f7, -, H7⟩⟩
  have hr : Reads V c t f0 f1 f2 f3 f4 f5 := ⟨e0, e1, e2, e3, e4, e5⟩
  iapply ((suppressed c t f0 f1 f2 f3 f4 f5).2.2 f6 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]
  · iexists _; isplitr; swap; (· iexists _; isplitr; swap; (· iexact H6); ipureintro; rfl)
    ipureintro; exact ⟨f0, f1, f2, f3, f4, f5, hr, f6, rfl⟩
  · iexists _; isplitr; swap; (· iexists _; isplitr; swap; (· iexact H7); ipureintro; rfl)
    ipureintro; exact ⟨f0, f1, f2, f3, f4, f5, hr, f7, rfl⟩

end Cert.Proof.K

end
-- ==== Proof.Run.lean ====
/-
  The program's run: three host stretches around the two regions.  What the arrays hold after the first region is a
  function of the launch contents; after the second it is known up to the rows the kernel never writes.
-/
module

public import proofs.«01_k».proof.Proof.Nms
public import Idealize.ShloMosaic.Lib.Pipeline.RegionsLoop

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- The proof data of the first region, entered after the first host stretch. -/
abbrev datA (c : Dev nD) : Dat τ (Elt F) Unit ℕ (UR sig nD τ) ℕ cfg0 c := dat0 (fun c b => V1 m c b) c

/-- The contents after the decoding region: the five results at what the region left. -/
def W2 (c : Dev nD) : Valuation τ sig (Elt F) :=
  Function.update (Function.update (Function.update (Function.update (Function.update (V1 m c)
    main_call0_v42_0 ((datA m c).arrAt 8 cfg0.N)) main_call0_v42_1 ((datA m c).arrAt 9 cfg0.N))
    main_call0_v42_2 ((datA m c).arrAt 10 cfg0.N)) main_call0_v42_3 ((datA m c).arrAt 11 cfg0.N))
    main_call0_v42_4 ((datA m c).arrAt 12 cfg0.N)

/-- The contents the suppression region is entered from. -/
def W3 (c : Dev nD) : Valuation τ sig (Elt F) := StableHlo.after hostOps1 (W2 m c)

/-- The proof data of the second region. -/
abbrev datB (c : Dev nD) : Dat τ (Elt F) Unit ℕ (UR sig nD τ) ℕ cfg1 c := dat1 (fun c b => W3 m c b) c

/-- The same, relational in the two result windows. -/
abbrev rdatB (c : Dev nD) : RDat τ (Elt F) Unit ℕ (UR sig nD τ) ℕ cfg1 c := (datB m c).toRRel loose1 (Left (fun c b => W3 m c b) c)

/-- Contents of the two results of the suppression region on core `c`. -/
abbrev Fin2 (c : Dev nD) : Type := Buf (Elt F) ((c : Thread nD τ).loc main_call0_v47_0) × Buf (Elt F) ((c : Thread nD τ).loc main_call0_v47_1)

/-- The contents after the suppression region, its two results at `o`. -/
def W4 (c : Dev nD) (o : Fin2 (F := F) c) : Valuation τ sig (Elt F) :=
  Function.update (Function.update (W3 m c) main_call0_v47_0 o.1) main_call0_v47_1 o.2

/-- The contents at the end. -/
def W5 (c : Dev nD) (o : Fin2 (F := F) c) : Valuation τ sig (Elt F) := StableHlo.after hostOps2 (W4 m c o)

/-- What the two results of the suppression region may be. -/
def May (c : Dev nD) (o : Fin2 (F := F) c) : Prop := (rdatB m c).ArrAt 6 cfg1.N o.1 ∧ (rdatB m c).ArrAt 7 cfg1.N o.2

theorem W2_of (c : Dev nD) (r : Ref sig .tc) (h0 : r ≠ main_call0_v42_0) (h1 : r ≠ main_call0_v42_1) (h2 : r ≠ main_call0_v42_2)
    (h3 : r ≠ main_call0_v42_3) (h4 : r ≠ main_call0_v42_4) : W2 m c r = V1 m c r := by
  unfold W2
  rw [Function.update_of_ne (StableHlo.devRef_ne_of_ne h4), Function.update_of_ne (StableHlo.devRef_ne_of_ne h3),
    Function.update_of_ne (StableHlo.devRef_ne_of_ne h2), Function.update_of_ne (StableHlo.devRef_ne_of_ne h1),
    Function.update_of_ne (StableHlo.devRef_ne_of_ne h0)]

theorem W2_0 (c : Dev nD) : W2 m c main_call0_v42_0 = (datA m c).arrAt 8 cfg0.N := by
  unfold W2
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_self]

theorem W2_1 (c : Dev nD) : W2 m c main_call0_v42_1 = (datA m c).arrAt 9 cfg0.N := by
  unfold W2
  rw [Function.update_of_ne (StableHlo.devRef_ne_of_ne (by decide)), Function.update_of_ne (StableHlo.devRef_ne_of_ne (by decide)),
    Function.update_of_ne (StableHlo.devRef_ne_of_ne (by decide)), Function.update_self]

theorem W2_2 (c : Dev nD) : W2 m c main_call0_v42_2 = (datA m c).arrAt 10 cfg0.N := by
  unfold W2
  rw [Function.update_of_ne (StableHlo.devRef_ne_of_ne (by decide)), Function.update_of_ne (StableHlo.devRef_ne_of_ne (by decide)),
    Function.update_self]

theorem W2_3 (c : Dev nD) : W2 m c main_call0_v42_3 = (datA m c).arrAt 11 cfg0.N := by
  unfold W2
  rw [Function.update_of_ne (StableHlo.devRef_ne_of_ne (by decide)), Function.update_self]

theorem W2_4 (c : Dev nD) : W2 m c main_call0_v42_4 = (datA m c).arrAt 12 cfg0.N := by
  unfold W2
  rw [Function.update_self]

theorem W4_of (c : Dev nD) (o : Fin2 (F := F) c) (r : Ref sig .tc) (h0 : r ≠ main_call0_v47_0) (h1 : r ≠ main_call0_v47_1) :
    W4 m c o r = W3 m c r := by
  unfold W4
  rw [Function.update_of_ne (StableHlo.devRef_ne_of_ne h1), Function.update_of_ne (StableHlo.devRef_ne_of_ne h0)]

theorem W4_0 (c : Dev nD) (o : Fin2 (F := F) c) : W4 m c o main_call0_v47_0 = o.1 := by
  unfold W4
  rw [Function.update_of_ne (StableHlo.devRef_ne_of_ne (by decide)), Function.update_self]

theorem W4_1 (c : Dev nD) (o : Fin2 (F := F) c) : W4 m c o main_call0_v47_1 = o.2 := by
  unfold W4
  rw [Function.update_self]

/-- A reference no item writes is at the end what it was at launch. -/
theorem W5_of (c : Dev nD) (o : Fin2 (F := F) c) (r : Ref sig .tc) (hA : r ∉ hostOps0_W) (hB : r ∉ hostOps1_W) (hC : r ∉ hostOps2_W)
    (h0 : r ≠ main_call0_v42_0) (h1 : r ≠ main_call0_v42_1) (h2 : r ≠ main_call0_v42_2)
    (h3 : r ≠ main_call0_v42_3) (h4 : r ≠ main_call0_v42_4) (h5 : r ≠ main_call0_v47_0) (h6 : r ≠ main_call0_v47_1) :
    W5 m c o r = m ((c : Thread nD τ).loc r) :=
  (StableHlo.after_of_writes_sub hostOps2 _ hostOps2_writes hC).trans <| (W4_of m c o r h5 h6).trans <|
    (StableHlo.after_of_writes_sub hostOps1 _ hostOps1_writes hB).trans <| (W2_of m c r h0 h1 h2 h3 h4).trans (V1_of m c r hA)

/-! ## The regions over the thread state -/

/-- The proof data of both pipelines. -/
def pdats : (p : Fin 2) → (c : Dev nD) → Dat τ (Elt F) Unit ℕ (UR sig nD τ) ℕ (Pipeline.pin (pcfgs (F := F)) adm p) c
  | ⟨0, _⟩ => fun c => datA m c
  | ⟨1, _⟩ => fun c => datB m c

/-- The relational proof data of both pipelines: exact in the first, loose in the results of the second. -/
def rdats : (p : Fin 2) → (c : Dev nD) → RDat τ (Elt F) Unit ℕ (UR sig nD τ) ℕ (Pipeline.pin (pcfgs (F := F)) adm p) c
  | ⟨0, _⟩ => fun c => (datA m c).toR
  | ⟨1, _⟩ => fun c => rdatB m c

abbrev L : GSem nD τ sig → Finset Unit := fun _ => ∅
abbrev lv : GSem nD τ sig → Unit → ℕ := fun _ _ => 0

/-- What rides along beside the buffers: the core owes nothing. -/
abbrev Ow (c : Dev nD) : sProp 𝕄 := iprop(∃ W, owes (c : Thread nD τ) (0 : CellTallies nD τ sig Unit) W)

/-- Every unscoped buffer of core `c` held at a valuation. -/
abbrev hld (c : Dev nD) (W : Valuation τ sig (Elt F)) : sProp 𝕄 := StableHlo.held (c : Thread nD τ) (Pipeline.ucRefs τ sig) W

theorem hld_eq (c : Dev nD) (W : Valuation τ sig (Elt F)) : (unscopedBufs c (fun b => W b) : sProp 𝕄) = hld c W :=
  Pipeline.unscopedBufs_held (Ix := Unit) (Name := ℕ) (U := UR sig nD τ) (Lvl := ℕ) c W

set_option maxHeartbeats 2000000 in
set_option backward.isDefEq.respectTransparency.types false in
/-- The arrays of the decoding region at its end, with the rest of the buffers, are the buffers at the next contents. -/
theorem joinA (c : Dev nD) : iprop((pdats m 0 c).arrays ((pdats m 0 c).arrAt · cfg0.N)
      ∗ Pipeline.unscopedRest (Ix := Unit) (Name := ℕ) (U := UR sig nD τ) (Lvl := ℕ) spec0 c (fun b => V1 m c b))
    ⊢ (unscopedBufs c (fun b => W2 m c b) : sProp 𝕄) :=
  Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl) (fun b => V1 m c b) (fun b => W2 m c b)
    ((pdats m 0 c).arrAt · cfg0.N)
    (fun w => by
      have hin : ∀ r : Ref sig .tc, r ≠ main_call0_v42_0 → r ≠ main_call0_v42_1 → r ≠ main_call0_v42_2 → r ≠ main_call0_v42_3 → r ≠ main_call0_v42_4 →
        V1 m c r = W2 m c r := fun r h0 h1 h2 h3 h4 => (W2_of m c r h0 h1 h2 h3 h4).symm
      fin_cases w
      · exact ((pdats m 0 c).arrAt_in 0 rfl _).trans (hin main_call0_v7 (by decide) (by decide) (by decide) (by decide) (by decide))
      · exact ((pdats m 0 c).arrAt_in 1 rfl _).trans (hin main_call0_v13 (by decide) (by decide) (by decide) (by decide) (by decide))
      · exact ((pdats m 0 c).arrAt_in 2 rfl _).trans (hin main_call0_v19 (by decide) (by decide) (by decide) (by decide) (by decide))
      · exact ((pdats m 0 c).arrAt_in 3 rfl _).trans (hin main_call0_v25 (by decide) (by decide) (by decide) (by decide) (by decide))
      · exact ((pdats m 0 c).arrAt_in 4 rfl _).trans (hin main_call0_v29 (by decide) (by decide) (by decide) (by decide) (by decide))
      · exact ((pdats m 0 c).arrAt_in 5 rfl _).trans (hin main_call0_v33 (by decide) (by decide) (by decide) (by decide) (by decide))
      · exact ((pdats m 0 c).arrAt_in 6 rfl _).trans (hin main_call0_v37 (by decide) (by decide) (by decide) (by decide) (by decide))
      · exact ((pdats m 0 c).arrAt_in 7 rfl _).trans (hin main_call0_v41 (by decide) (by decide) (by decide) (by decide) (by decide))
      · exact (W2_0 m c).symm
      · exact (W2_1 m c).symm
      · exact (W2_2 m c).symm
      · exact (W2_3 m c).symm
      · exact (W2_4 m c).symm)
    (fun b hb => W2_of m c b (fun h => hb (h ▸ Finset.mem_image.mpr ⟨8, Finset.mem_univ _, rfl⟩))
      (fun h => hb (h ▸ Finset.mem_image.mpr ⟨9, Finset.mem_univ _, rfl⟩)) (fun h => hb (h ▸ Finset.mem_image.mpr ⟨10, Finset.mem_univ _, rfl⟩))
      (fun h => hb (h ▸ Finset.mem_image.mpr ⟨11, Finset.mem_univ _, rfl⟩)) (fun h => hb (h ▸ Finset.mem_image.mpr ⟨12, Finset.mem_univ _, rfl⟩)))

set_option backward.isDefEq.respectTransparency.types false in
/-- The decoding region, from the contents after the first host stretch to those with the five results decoded. -/
def regA : RDat.RegionSeg (pcfgs (F := F)) adm (rdats m) () defs₀ Variants.none L lv 0 where
  win := launch0.win.to₀
  block_pos := launch0.block_pos
  stage_whole := launch0.stage_whole
  K := PEmpty
  osem k := k.elim
  ho := Pipeline.OwnSemFacts.none _
  hbody c := (body0 (fun c b => V1 m c b) c).loose.toR
  hwaits := RDat.hwaits_of_owed_zero _ _ _ _ L lv 0 fun _ _ => rfl
  pre c := iprop(hld c (V1 m c) ∗ Ow c)
  post c := iprop(hld c (W2 m c) ∗ Ow c)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none, ← hld_eq c (V1 m c)]
    have hsplit := RDat.arrays_of_unscopedBufs (p := 0) (pcfgs (F := F)) adm (rdats m) launch0.win launch0.arr_whole c
      ((pdats m 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = Pipeline.scopedRest spec0 c from rfl]
    iintro ⟨-, -, Hr⟩; iexact Hr
  hout c := by
    rw [Pipeline.ownSems0_none, show (rdats m 0 c).Φ (Fin.last _) = Pipeline.scopedRest spec0 c from rfl]
    iintro Hr
    isplitr; · iempintro
    isplitr; · iempintro
    iexact Hr
  hexit c := by
    rw [show (rdats m 0 c).arraysAt (Pipeline.pin (pcfgs (F := F)) adm 0).N = (pdats m 0 c).arrays ((pdats m 0 c).arrAt · cfg0.N) from
      (pdats m 0 c).toR_arraysAt_eq _, ← hld_eq c (W2 m c)]
    iintro ⟨Ha, HO, -, Hrest⟩
    imodintro
    isplitl [Ha Hrest]
    · iapply (joinA m c); isplitl [Ha] <;> iassumption
    unfold Pipeline.RDat.owesAt Pipeline.owesWithin
    icases HO with ⟨%W, -, HO⟩; iexists W; iexact HO

set_option backward.isDefEq.respectTransparency.types false in
/-- Opening what the arrays of the suppression region may hold. -/
theorem openB (c : Dev nD) : ((rdatB m c).arraysAt cfg1.N : sProp 𝕄)
    ⊢ iprop(∃ A : (w : Fin 8) → Buf (Elt F) ((cfg1.win w).arr.view.loc (c : Thread nD τ)),
        ⌜∀ w, (rdatB m c).ArrAt w cfg1.N (A w)⌝ ∗ (datB m c).arrays A) := by
  unfold RDat.arraysAt Dat.arrays
  refine (BI.bigSep_exists_pi Finset.univ _).trans ?_
  iintro ⟨%A, H⟩
  ihave H' := (BI.bigSep_pure_sep Finset.univ (fun w => (rdatB m c).ArrAt w cfg1.N (A w))
    (fun w => iprop((cfg1.win w).arr.view.loc (c : Thread nD τ) ↦[(cfg1.win w).arr.view.set]{(rdatB m c).share w} A w))) $$ H
  icases H' with ⟨%hA, H⟩
  iexists A
  isplitr
  · ipureintro; exact fun w => hA w (Finset.mem_univ w)
  iexact H

/-- An operand array of the suppression region ends as it was entered. -/
theorem inB (c : Dev nD) (w : Fin 8) (ho : (win1 w).isOut = false) {X : Buf (Elt F) ((cfg1.win w).arr.view.loc (c : Thread nD τ))}
    (h : (rdatB m c).ArrAt w cfg1.N X) : X = W3 m c (Pipeline.arrRef spec1 w) :=
  (congrFun (RDat.ArrAt_in (rdatB m c) w ho _) X).mp h

set_option backward.isDefEq.respectTransparency.types false in
/-- The arrays of the suppression region at its end, with the rest of the buffers, are the buffers at the next contents. -/
theorem joinB (c : Dev nD) (A : (w : Fin 8) → Buf (Elt F) ((cfg1.win w).arr.view.loc (c : Thread nD τ))) (hA : ∀ w, (rdatB m c).ArrAt w cfg1.N (A w)) :
    iprop((pdats m 1 c).arrays A ∗ Pipeline.unscopedRest (Ix := Unit) (Name := ℕ) (U := UR sig nD τ) (Lvl := ℕ) spec1 c (fun b => W3 m c b))
    ⊢ (unscopedBufs c (fun b => W4 m c (A 6, A 7) b) : sProp 𝕄) :=
    Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl) (fun b => W3 m c b)
    (fun b => W4 m c (A 6, A 7) b) A
    (fun w => by
      by_cases h6 : w = 6
      · subst h6; exact (W4_0 m c (A 6, A 7)).symm
      by_cases h7 : w = 7
      · subst h7; exact (W4_1 m c (A 6, A 7)).symm
      have hw : ∀ w : Fin 8, w ≠ 6 → w ≠ 7 → (win1 w).isOut = false ∧ Pipeline.arrRef spec1 w ≠ main_call0_v47_0 ∧ Pipeline.arrRef spec1 w ≠ main_call0_v47_1 := by
        decide
      obtain ⟨ho, h0, h1⟩ := hw w h6 h7
      exact (inB m c w ho (hA w)).trans (W4_of m c _ (Pipeline.arrRef spec1 w) h0 h1).symm)
    (fun b hb => W4_of m c _ b (fun h => hb (h ▸ Finset.mem_image.mpr ⟨6, Finset.mem_univ _, rfl⟩))
      (fun h => hb (h ▸ Finset.mem_image.mpr ⟨7, Finset.mem_univ _, rfl⟩)))

set_option backward.isDefEq.respectTransparency.types false in
/-- The suppression region, from the contents after the second host stretch to those with its two results at something
    they may be. -/
def regB : RDat.RegionSeg (pcfgs (F := F)) adm (rdats m) () defs₀ Variants.none L lv 1 where
  win := launch1.win.to₀
  block_pos := launch1.block_pos
  stage_whole := launch1.stage_whole
  K := PEmpty
  osem k := k.elim
  ho := Pipeline.OwnSemFacts.none _
  hbody c := (body1 (fun c b => W3 m c b) c).toRRel
  hwaits := RDat.hwaits_of_owed_zero _ _ _ _ L lv 1 fun _ _ => rfl
  pre c := iprop(hld c (W3 m c) ∗ Ow c)
  post c := iprop(∃ o : Fin2 (F := F) c, ⌜May m c o⌝ ∗ hld c (W4 m c o) ∗ Ow c)
  X _ := BI.emp
  Y _ := BI.emp
  Z c := Pipeline.unscopedRest (Ix := Unit) (Name := ℕ) (U := UR sig nD τ) (Lvl := ℕ) spec1 c (fun b => W3 m c b)
  hentry c := by
    rw [Pipeline.ownSems0_none, ← hld_eq c (W3 m c)]
    have hsplit := RDat.arrays_of_unscopedBufs (p := 1) (pcfgs (F := F)) adm (rdats m) launch1.win launch1.arr_whole c
      ((pdats m 1 c).share_full fun _ => rfl) (fun b => W3 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m 1 c).Φ 0 = Pipeline.scopedRest spec1 c from rfl]
    iintro ⟨-, -, Hr⟩; iexact Hr
  hout c := by
    rw [Pipeline.ownSems0_none, show (rdats m 1 c).Φ (Fin.last _) = Pipeline.scopedRest spec1 c from rfl]
    iintro Hr
    isplitr; · iempintro
    isplitr; · iempintro
    iexact Hr
  hexit c := by
    rw [show (rdats m 1 c).arraysAt (Pipeline.pin (pcfgs (F := F)) adm 1).N = (rdatB m c).arraysAt cfg1.N from rfl]
    iintro ⟨Ha, HO, -, Hrest⟩
    ihave Ha := (openB m c) $$ Ha
    icases Ha with ⟨%A, %hA, Ha⟩
    imodintro
    iexists (A 6, A 7)
    rw [← hld_eq c (W4 m c (A 6, A 7))]
    isplitr; · ipureintro; exact ⟨hA 6, hA 7⟩
    isplitl [Ha Hrest]
    · iapply (joinB m c A hA)
      isplitl [Ha]; · iexact Ha
      iexact Hrest
    unfold Pipeline.RDat.owesAt Pipeline.owesWithin
    icases HO with ⟨%W, -, HO⟩; iexists W; iexact HO

end Cert.Proof.K

end
-- ==== Proof.Whole.lean ====
/-
  The program launched whole: what every unscoped buffer holds at the end, and the frame.
-/
module

public import proofs.«01_k».proof.Proof.Run

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F]

local notation "𝕄" => MT nD τ sig Unit (Elt F) ℕ (UR sig nD τ) ℕ

variable (m : (ℓ : Loc nD τ sig) → Buf (Elt F) ℓ)

/-- The first host stretch. -/
def hostA : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Ow

/-- The host stretch between the regions. -/
def hostB : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) Ow

/-- The last host stretch from one choice of the second region's results on core `c₀`. -/
def hostC' (c₀ : Dev nD) (o : Fin2 (F := F) c₀) : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (fun _ => W4 m c₀ o) Ow

/-- The last host stretch, from whatever the second region left. -/
def hostC : HostSeg (Ix := Unit) (Name := ℕ) (U := UR sig nD τ) (Lvl := ℕ) (pcfgs (F := F)) defs₀ Variants.none L lv where
  prog := StableHlo.seq hostOps2
  pre c := iprop(∃ o : Fin2 (F := F) c, ⌜May m c o⌝ ∗ hld c (W4 m c o) ∗ Ow c)
  post c := iprop(∃ o : Fin2 (F := F) c, ⌜May m c o⌝ ∗ hld c (W5 m c o) ∗ Ow c)
  run := by
    intro c β k K
    iintro ⟨Hk, Hb, ⟨%o, %ho, Hh, HO⟩, Hla⟩
    have h := (hostC' m c o).run c k K
    iapply h
    isplitl [Hk]
    · iintro ⟨Hb, Hp⟩
      ihave Hp := (show (hostC' m c o).post c ⊢ (iprop(hld c (W5 m c o) ∗ Ow c) : sProp 𝕄) from .rfl) $$ Hp
      iapply Hk
      isplitl [Hb]; · iexact Hb
      icases Hp with ⟨Hh, HO⟩
      iexists o
      isplitr; · ipureintro; exact ho
      isplitl [Hh]; · iexact Hh
      iexact HO
    isplitl [Hb]; · iexact Hb
    isplitl [Hh HO]
    · iapply (show (iprop(hld c (W4 m c o) ∗ Ow c) : sProp 𝕄) ⊢ (hostC' m c o).pre c from .rfl)
      isplitl [Hh]; · iexact Hh
      iexact HO
    iexact Hla

/-- The program's items, in order. -/
abbrev items (_ : Dev nD) : List (RDat.Seg (pcfgs (F := F)) adm (rdats m) () defs₀ Variants.none L lv) :=
  [.host (hostA m), .region (regA m), .host (hostB m), .region (regB m), .host (hostC m)]

/-- The launch's ghost element: the regions' rounds. -/
abbrev EP₀ : Emb (UR sig nD τ) 𝕄 := emb₁

abbrev u₀ : UR sig nD τ := initOf (Pipeline.cells cfgs cellOf_inj) (Pipeline.launchToks cfgs cellOf_inj)

/-- Every unscoped buffer of core `c` in memory `s` is at the end contents of one choice of the second region's results. -/
def Ended (c : Dev nD) (s : MemSt nD τ sig (Elt F)) : Prop :=
  ∃ o : Fin2 (F := F) c, May m c o ∧ ∀ r : Ref sig .tc, Proc.devRef .tc r ∈ Pipeline.ucRefs τ sig →
    s.mem ((c : Thread nD τ).loc r) = W5 m c o r

set_option backward.isDefEq.respectTransparency.types false in
/-- The whole program: every run ends, its unscoped buffers at the end contents, every semaphore at zero. -/
theorem ran (g : Dev nD → PrngReg) :
    θ_run defs (onTc (τ := τ) (main (F := F))) ⟨m, fun _ => 0, g⟩ (fun r => (∀ c : Dev nD, Ended m c r.2) ∧ r.2.sem = fun _ => 0) := by
  refine Pipeline.RDat.θ_run_regions_kit_dev_sems (pcfgs (F := F)) adm (rdats m) () cellOf_inj EP₀ defs₀ Variants.none L lv m g main
    (items m)
    (fun c Q => by
      rewrite [main_chain c, Pipeline.RDat.Seg.run_eq_chain,
        show (items m c).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Pipeline.RDat.Seg.pipes_host, Pipeline.RDat.Seg.pipes_region, Pipeline.RDat.Seg.pipes_nil]; decide)
    (0 : Dev nD → CellTallies nD τ sig Unit) (fun _ _ => rfl) (fun _ => (BI.emp : sProp 𝕄)) u₀ ?_
    (T₀ := fun c => iprop(hld c (V0 m c) ∗ Ow c))
    (Tₙ := fun c => iprop(∃ o : Fin2 (F := F) c, ⌜May m c o⌝ ∗ hld c (W5 m c o)))
    (hch := fun c => ⟨.rfl, .rfl, .rfl, .rfl, .rfl, ?_⟩)
    (hinit := ?_) (QY := Ended m)
    (hfin := fun c s' => ?_) (hQ := fun _ h hz => ⟨h, funext fun g => hz g (.inr (regions_no_unscoped g.2))⟩)
  · iintro Hu
    imodintro
    isplitl [Hu]
    · iapply (show (ownU u₀ : sProp 𝕄) ⊢ BI.own (EP₀ (F := F) (initOf (Pipeline.cells cfgs cellOf_inj) (Pipeline.launchToks cfgs cellOf_inj))) from BI.Entails.refl _)
      iexact Hu
    iapply (show (BI.emp : sProp 𝕄) ⊢ bigSep Finset.univ (fun _ : Dev nD => (BI.emp : sProp 𝕄)) from by rw [BI.bigSep_emp_const])
    iempintro
  · change (iprop(∃ o : Fin2 (F := F) c, ⌜May m c o⌝ ∗ hld c (W5 m c o) ∗ Ow c) : sProp 𝕄) ⊢ _
    iintro ⟨%o, %ho, Hh, HO⟩
    isplitl [Hh]
    · iexists o
      isplitr; · ipureintro; exact ho
      iexact Hh
    iexact HO
  · refine Pipeline.initEach L lv fun c => ?_
    rw [show (unscopedBufs c (fun b => m ((c : Thread nD τ).loc b)) : sProp 𝕄) = hld c (V0 m c) from hld_eq c (V0 m c)]
    iintro ⟨⟨Hh, -, HO, -, -, -⟩, -⟩
    imodintro
    isplitl [Hh]
    · iexact Hh
    iexists ∅
    iexact HO
  · unfold hld StableHlo.held
    iintro ⟨⟨%o, %ho, Hh⟩, HSI⟩
    ihave Hr := (pointsTo_read_all (Pipeline.ucRefs τ sig) (fun b => ((c : Thread nD τ).1, b)) (W5 m c o) s') $$ [Hh HSI]
    · isplitl [Hh] <;> iassumption
    icases Hr with ⟨%h, HSI⟩
    imodintro
    isplitr
    · ipureintro
      exact ⟨o, ho, fun r hr => h (Proc.devRef .tc r) hr⟩
    · iexact HSI

/-- The arguments at the end. -/
theorem args_of_ended {c : Dev nD} {s : MemSt nD τ sig (Elt F)} (h : Ended m c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2) := by
  obtain ⟨o, -, h⟩ := h
  exact ⟨(h main_arg0 (Finset.mem_filter.mpr ⟨StableHlo.devRef_mem_tcRefs main_arg0, by decide⟩)).trans
      (W5_of m c o main_arg0 (by decide) (by decide) (by decide) (by decide) (by decide) (by decide) (by decide) (by decide) (by decide) (by decide)),
    (h main_arg1 (Finset.mem_filter.mpr ⟨StableHlo.devRef_mem_tcRefs main_arg1, by decide⟩)).trans
      (W5_of m c o main_arg1 (by decide) (by decide) (by decide) (by decide) (by decide) (by decide) (by decide) (by decide) (by decide) (by decide)),
    (h main_arg2 (Finset.mem_filter.mpr ⟨StableHlo.devRef_mem_tcRefs main_arg2, by decide⟩)).trans
      (W5_of m c o main_arg2 (by decide) (by decide) (by decide) (by decide) (by decide) (by decide) (by decide) (by decide) (by decide) (by decide))⟩

/-- The frame of the program, at any float ops. -/
theorem framed (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args_of_ended m (h.1 c), h.2⟩) (ran m g)

end Cert.Proof.K

end
-- ==== Proof.KernelFrame.lean ====
/-
  The kernel's own program, at machine numbers: it is the idealized program's text, so its frame is that program's frame.
-/
module

public import proofs.«01_k».proof.Proof.Whole
public import proofs.«01_k».proof.Defs

@[expose] public section

noncomputable section

namespace Cert.Proof.K

open Idealize.ShloMosaic Idealize.SL.Sem

variable [Cert.Kernel.Facts] [Cert.KernelIdeal.Facts]

set_option maxHeartbeats 8000000 in
/-- The two programs' bodies are one. -/
theorem bodies : Cert.Kernel.defs₀ (F := Bits) = Cert.KernelIdeal.defs₀ (F := Bits) := by
  refine congrArg Defs.onTc (funext fun l => funext fun x => ?_)
  match l, x with
  | ⟨0, _⟩, (t, s) => rfl
  | ⟨1, _⟩, (t, s) => rfl

set_option maxHeartbeats 8000000 in
/-- The two programs' tables of bodies and regions are one. -/
theorem tables : Cert.Kernel.defs (F := Bits) = Cert.KernelIdeal.defs (F := Bits) :=
  congrArg (Pipeline.defs (Cert.KernelIdeal.pcfgs (F := Bits))) bodies

set_option maxHeartbeats 8000000 in
/-- The kernel's frame. -/
theorem kernelFrame : Cert.quiescent_Kernel := fun m g _ => by
  have h := framed (F := Bits) m g
  rw [← tables] at h
  exact h

/-- The idealized kernel's frame. -/
theorem idealFrame : Cert.quiescent_KernelIdeal :=
  fun m g _ => framed (F := Ideal) m g

end Cert.Proof.K

end
-- ==== Proof.RefOps.lean ====
/-
  The reference as lists of host operations: before its loop, the condition, the body, after the loop.
-/
module

public import proofs.«01_k».proof.Proof.Gen.ReferenceIdeal
public import Idealize.ShloMosaic.Lib.StableHlo.RunLoop
public import Idealize.ShloMosaic.Lib.StableHlo.RunRead
public import Idealize.ShloMosaic.Lib.Quiescent

@[expose] public section

noncomputable section

namespace Cert.Proof.R

open Cert.ReferenceIdeal Cert.ReferenceIdeal.Gen
open Idealize.ShloMosaic Idealize.SL.Sem

variable {F : FTy → Type} [FloatOps F]

/-- Operations of the program before its loop: the sigmoid and the scale constants. -/
abbrev preOps0 : List (HloOp τ sig (Elt F)) :=
  [ StableHlo.nullary main_cst (fun i => FloatOps.ofBits .f32 (lit0 (S4.rowMajor i))),
    StableHlo.unary main_arg0 main_v0 (Host.negf : (⟨S1x20000x81, .f32⟩ : BufTy).Contents (Elt F) → (⟨S1x20000x81, .f32⟩ : BufTy).Contents (Elt F)),
    StableHlo.unary main_v0 main_v1 (Host.exp : (⟨S1x20000x81, .f32⟩ : BufTy).Contents (Elt F) → (⟨S1x20000x81, .f32⟩ : BufTy).Contents (Elt F)),
    StableHlo.nullary main_cst_0 (constant S_ .f32 0x3F800000#32),
    StableHlo.unary main_cst_0 main_v2 (broadcastInDim S1x20000x81 ![] bcast_S_S1x20000x81 : (⟨S_, .f32⟩ : BufTy).Contents (Elt F) → (⟨S1x20000x81, .f32⟩ : BufTy).Contents (Elt F)),
    StableHlo.binary main_v2 main_v1 main_v3 (addf : (⟨S1x20000x81, .f32⟩ : BufTy).Contents (Elt F) → (⟨S1x20000x81, .f32⟩ : BufTy).Contents (Elt F) → (⟨S1x20000x81, .f32⟩ : BufTy).Contents (Elt F)),
    StableHlo.nullary main_cst_1 (constant S_ .f32 0x3F800000#32),
    StableHlo.unary main_cst_1 main_v4 (broadcastInDim S1x20000x81 ![] bcast_S_S1x20000x81 : (⟨S_, .f32⟩ : BufTy).Contents (Elt F) → (⟨S1x20000x81, .f32⟩ : BufTy).Contents (Elt F)),
    StableHlo.binary main_v4 main_v3 main_v5 (Host.divf : (⟨S1x20000x81, .f32⟩ : BufTy).Contents (Elt F) → (⟨S1x20000x81, .f32⟩ : BufTy).Contents (Elt F) → (⟨S1x20000x81, .f32⟩ : BufTy).Contents (Elt F)),
    StableHlo.reshape main_v5 main_v6 (rfl : (.f32 : EltTy) = .f32) shapeCasts_S1x20000x81_S20000x81,
    StableHlo.unary main_cst main_v7 ((extractStridedSlice S1 ![0] · slices_S4_S1_0) : (⟨S4, .f32⟩ : BufTy).Contents (Elt F) → (⟨S1, .f32⟩ : BufTy).Contents (Elt F)),
    StableHlo.reshape main_v7 main_v8 (rfl : (.f32 : EltTy) = .f32) shapeCasts_S1_S_,
    StableHlo.unary main_cst main_v9 ((extractStridedSlice S1 ![1] · slices_S4_S1_1) : (⟨S4, .f32⟩ : BufTy).Contents (Elt F) → (⟨S1, .f32⟩ : BufTy).Contents (Elt F)),
    StableHlo.reshape main_v9 main_v10 (rfl : (.f32 : EltTy) = .f32) shapeCasts_S1_S_,
    StableHlo.unary main_cst main_v11 ((extractStridedSlice S1 ![2] · slices_S4_S1_2) : (⟨S4, .f32⟩ : BufTy).Contents (Elt F) → (⟨S1, .f32⟩ : BufTy).Contents (Elt F)),
    StableHlo.reshape main_v11 main_v12 (rfl : (.f32 : EltTy) = .f32) shapeCasts_S1_S_,
    StableHlo.unary main_cst main_v13 ((extractStridedSlice S1 ![3] · slices_S4_S1_3) : (⟨S4, .f32⟩ : BufTy).Contents (Elt F) → (⟨S1, .f32⟩ : BufTy).Contents (Elt F)),
    StableHlo.reshape main_v13 main_v14 (rfl : (.f32 : EltTy) = .f32) shapeCasts_S1_S_ ]

theorem preOps0_sub : (preOps0 : List (HloOp τ sig (Elt F))).Forall fun op => op.bufs ⊆ StableHlo.tcRefs τ sig :=
  ⟨StableHlo.nullary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩

/-- Operations of the program before its loop: the scaled deltas. -/
abbrev preOps1 : List (HloOp τ sig (Elt F)) :=
  [ StableHlo.unary main_arg1 main_v15 ((extractStridedSlice S1x20000x1 ![0, 0, 0] · slices_S1x20000x4_S1x20000x1_0_0_0) : (⟨S1x20000x4, .f32⟩ : BufTy).Contents (Elt F) → (⟨S1x20000x1, .f32⟩ : BufTy).Contents (Elt F)),
    StableHlo.reshape main_v15 main_v16 (rfl : (.f32 : EltTy) = .f32) shapeCasts_S1x20000x1_S1x20000,
    StableHlo.unary main_v8 main_v17 (broadcastInDim S1x20000 ![] bcast_S_S1x20000 : (⟨S_, .f32⟩ : BufTy).Contents (Elt F) → (⟨S1x20000, .f32⟩ : BufTy).Contents (Elt F)),
    StableHlo.binary main_v16 main_v17 main_v18 (Host.divf : (⟨S1x20000, .f32⟩ : BufTy).Contents (Elt F) → (⟨S1x20000, .f32⟩ : BufTy).Contents (Elt F) → (⟨S1x20000, .f32⟩ : BufTy).Contents (Elt F)),
    StableHlo.unary main_arg1 main_v19 ((extractStridedSlice S1x20000x1 ![0, 0, 1] · slices_S1x20000x4_S1x20000x1_0_0_1) : (⟨S1x20000x4, .f32⟩ : BufTy).Contents (Elt F) → (⟨S1x20000x1, .f32⟩ : BufTy).Contents (Elt F)),
    StableHlo.reshape main_v19 main_v20 (rfl : (.f32 : EltTy) = .f32) shapeCasts_S1x20000x1_S1x20000,
    StableHlo.unary main_v10 main_v21 (broadcastInDim S1x20000 ![] bcast_S_S1x20000 : (⟨S_, .f32⟩ : BufTy).Contents (Elt F) → (⟨S1x20000, .f32⟩ : BufTy).Contents (Elt F)),
    StableHlo.binary main_v20 main_v21 main_v22 (Host.divf : (⟨S1x20000, .f32⟩ : BufTy).Contents (Elt F) → (⟨S1x20000, .f32⟩ : BufTy).Contents (Elt F) → (⟨S1x20000, .f32⟩ : BufTy).Contents (Elt F)),
    StableHlo.unary main_arg1 main_v23 ((extractStridedSlice S1x20000x1 ![0, 0, 2] · slices_S1x20000x4_S1x20000x1_0_0_2) : (⟨S1x20000x4, .f32⟩ : BufTy).Contents (Elt F) → (⟨S1x20000x1, .f32⟩ : BufTy).Contents (Elt F)),
    StableHlo.reshape main_v23 main_v24 (rfl : (.f32 : EltTy) = .f32) shapeCasts_S1x20000x1_S1x20000,
    StableHlo.unary main_v12 main_v25 (broadcastInDim S1x20000 ![] bcast_S_S1x20000 : (⟨S_, .f32⟩ : BufTy).Contents (Elt F) → (⟨S1x20000, .f32⟩ : BufTy).Contents (Elt F)),
    StableHlo.binary main_v24 main_v25 main_v26 (Host.divf : (⟨S1x20000, .f32⟩ : BufTy).Contents (Elt F) → (⟨S1x20000, .f32⟩ : BufTy).Contents (Elt F) → (⟨S1x20000, .f32⟩ : BufTy).Contents (Elt F)),
    StableHlo.unary main_arg1 main_v27 ((extractStridedSlice S1x20000x1 ![0, 0, 3] · slices_S1x20000x4_S1x20000x1_0_0_3) : (⟨S1x20000x4, .f32⟩ : BufTy).Contents (Elt F) → (⟨S1x20000x1, .f32⟩ : BufTy).Contents (Elt F)),
    StableHlo.reshape main_v27 main_v28 (rfl : (.f32 : EltTy) = .f32) shapeCasts_S1x20000x1_S1x20000,
    StableHlo.unary main_v14 main_v29 (broadcastInDim S1x20000 ![] bcast_S_S1x20000 : (⟨S_, .f32⟩ : BufTy).Contents (Elt F) → (⟨S1x20000, .f32⟩ : BufTy).Contents (Elt F)),
    StableHlo.binary main_v28 main_v29 main_v30 (Host.divf : (⟨S1x20000, .f32⟩ : BufTy).Contents (Elt F) → (⟨S1x20000, .f32⟩ : BufTy).Contents (Elt F) → (⟨S1x20000, .f32⟩ : BufTy).Contents (Elt F)) ]

theorem preOps1_sub : (preOps1 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.binary_bufs_sub ..⟩

/-- Operations of the program before its loop: the priors and the centers. -/
abbrev preOps2 : List (HloOp τ sig (Elt F)) :=
  [ StableHlo.unary main_arg2 main_v31 ((extractStridedSlice S20000x1 ![0, 0] · slices_S20000x4_S20000x1_0_0) : (⟨S20000x4, .f32⟩ : BufTy).Contents (Elt F) → (⟨S20000x1, .f32⟩ : BufTy).Contents (Elt F)),
    StableHlo.reshape main_v31 main_v32 (rfl : (.f32 : EltTy) = .f32) shapeCasts_S20000x1_S20000,
    StableHlo.unary main_arg2 main_v33 ((extractStridedSlice S20000x1 ![0, 1] · slices_S20000x4_S20000x1_0_1) : (⟨S20000x4, .f32⟩ : BufTy).Contents (Elt F) → (⟨S20000x1, .f32⟩ : BufTy).Contents (Elt F)),
    StableHlo.reshape main_v33 main_v34 (rfl : (.f32 : EltTy) = .f32) shapeCasts_S20000x1_S20000,
    StableHlo.unary main_arg2 main_v35 ((extractStridedSlice S20000x1 ![0, 2] · slices_S20000x4_S20000x1_0_2) : (⟨S20000x4, .f32⟩ : BufTy).Contents (Elt F) → (⟨S20000x1, .f32⟩ : BufTy).Contents (Elt F)),
    StableHlo.reshape main_v35 main_v36 (rfl : (.f32 : EltTy) = .f32) shapeCasts_S20000x1_S20000,
    StableHlo.unary main_arg2 main_v37 ((extractStridedSlice S20000x1 ![0, 3] · slices_S20000x4_S20000x1_0_3) : (⟨S20000x4, .f32⟩ : BufTy).Contents (Elt F) → (⟨S20000x1, .f32⟩ : BufTy).Contents (Elt F)),
    StableHlo.reshape main_v37 main_v38 (rfl : (.f32 : EltTy) = .f32) shapeCasts_S20000x1_S20000,
    StableHlo.unary main_v36 main_v39 (broadcastInDim S1x20000 ![1] bcast_S20000_S1x20000_1 : (⟨S20000, .f32⟩ : BufTy).Contents (Elt F) → (⟨S1x20000, .f32⟩ : BufTy).Contents (Elt F)),
    StableHlo.binary main_v18 main_v39 main_v40 (mulf : (⟨S1x20000, .f32⟩ : BufTy).Contents (Elt F) → (⟨S1x20000, .f32⟩ : BufTy).Contents (Elt F) → (⟨S1x20000, .f32⟩ : BufTy).Contents (Elt F)),
    StableHlo.unary main_v32 main_v41 (broadcastInDim S1x20000 ![1] bcast_S20000_S1x20000_1 : (⟨S20000, .f32⟩ : BufTy).Contents (Elt F) → (⟨S1x20000, .f32⟩ : BufTy).Contents (Elt F)),
    StableHlo.binary main_v40 main_v41 main_v42 (addf : (⟨S1x20000, .f32⟩ : BufTy).Contents (Elt F) → (⟨S1x20000, .f32⟩ : BufTy).Contents (Elt F) → (⟨S1x20000, .f32⟩ : BufTy).Contents (Elt F)),
    StableHlo.unary main_v38 main_v43 (broadcastInDim S1x20000 ![1] bcast_S20000_S1x20000_1 : (⟨S20000, .f32⟩ : BufTy).Contents (Elt F) → (⟨S1x20000, .f32⟩ : BufTy).Contents (Elt F)),
    StableHlo.binary main_v22 main_v43 main_v44 (mulf : (⟨S1x20000, .f32⟩ : BufTy).Contents (Elt F) → (⟨S1x20000, .f32⟩ : BufTy).Contents (Elt F) → (⟨S1x20000, .f32⟩ : BufTy).Contents (Elt F)),
    StableHlo.unary main_v34 main_v45 (broadcastInDim S1x20000 ![1] bcast_S20000_S1x20000_1 : (⟨S20000, .f32⟩ : BufTy).Contents (Elt F) → (⟨S1x20000, .f32⟩ : BufTy).Contents (Elt F)),
    StableHlo.binary main_v44 main_v45 main_v46 (addf : (⟨S1x20000, .f32⟩ : BufTy).Contents (Elt F) → (⟨S1x20000, .f32⟩ : BufTy).Contents (Elt F) → (⟨S1x20000, .f32⟩ : BufTy).Contents (Elt F)) ]

theorem preOps2_sub : (preOps2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩

/-- Operations of the program before its loop: the corners. -/
abbrev preOps3 : List (HloOp τ sig (Elt F)) :=
  [ StableHlo.unary main_v26 main_v47 (Host.exp : (⟨S1x20000, .f32⟩ : BufTy).Contents (Elt F) → (⟨S1x20000, .f32⟩ : BufTy).Contents (Elt F)),
    StableHlo.unary main_v36 main_v48 (broadcastInDim S1x20000 ![1] bcast_S20000_S1x20000_1 : (⟨S20000, .f32⟩ : BufTy).Contents (Elt F) → (⟨S1x20000, .f32⟩ : BufTy).Contents (Elt F)),
    StableHlo.binary main_v47 main_v48 main_v49 (mulf : (⟨S1x20000, .f32⟩ : BufTy).Contents (Elt F) → (⟨S1x20000, .f32⟩ : BufTy).Contents (Elt F) → (⟨S1x20000, .f32⟩ : BufTy).Contents (Elt F)),
    StableHlo.unary main_v30 main_v50 (Host.exp : (⟨S1x20000, .f32⟩ : BufTy).Contents (Elt F) → (⟨S1x20000, .f32⟩ : BufTy).Contents (Elt F)),
    StableHlo.unary main_v38 main_v51 (broadcastInDim S1x20000 ![1] bcast_S20000_S1x20000_1 : (⟨S20000, .f32⟩ : BufTy).Contents (Elt F) → (⟨S1x20000, .f32⟩ : BufTy).Contents (Elt F)),
    StableHlo.binary main_v50 main_v51 main_v52 (mulf : (⟨S1x20000, .f32⟩ : BufTy).Contents (Elt F) → (⟨S1x20000, .f32⟩ : BufTy).Contents (Elt F) → (⟨S1x20000, .f32⟩ : BufTy).Contents (Elt F)),
    StableHlo.nullary main_cst_2 (constant S_ .f32 0x40000000#32),
    StableHlo.unary main_cst_2 main_v53 (broadcastInDim S1x20000 ![] bcast_S_S1x20000 : (⟨S_, .f32⟩ : BufTy).Contents (Elt F) → (⟨S1x20000, .f32⟩ : BufTy).Contents (Elt F)),
    StableHlo.binary main_v49 main_v53 main_v54 (Host.divf : (⟨S1x20000, .f32⟩ : BufTy).Contents (Elt F) → (⟨S1x20000, .f32⟩ : BufTy).Contents (Elt F) → (⟨S1x20000, .f32⟩ : BufTy).Contents (Elt F)),
    StableHlo.binary main_v42 main_v54 main_v55 (subf : (⟨S1x20000, .f32⟩ : BufTy).Contents (Elt F) → (⟨S1x20000, .f32⟩ : BufTy).Contents (Elt F) → (⟨S1x20000, .f32⟩ : BufTy).Contents (Elt F)),
    StableHlo.nullary main_cst_3 (constant S_ .f32 0x40000000#32),
    StableHlo.unary main_cst_3 main_v56 (broadcastInDim S1x20000 ![] bcast_S_S1x20000 : (⟨S_, .f32⟩ : BufTy).Contents (Elt F) → (⟨S1x20000, .f32⟩ : BufTy).Contents (Elt F)),
    StableHlo.binary main_v52 main_v56 main_v57 (Host.divf : (⟨S1x20000, .f32⟩ : BufTy).Contents (Elt F) → (⟨S1x20000, .f32⟩ : BufTy).Contents (Elt F) → (⟨S1x20000, .f32⟩ : BufTy).Contents (Elt F)),
    StableHlo.binary main_v46 main_v57 main_v58 (subf : (⟨S1x20000, .f32⟩ : BufTy).Contents (Elt F) → (⟨S1x20000, .f32⟩ : BufTy).Contents (Elt F) → (⟨S1x20000, .f32⟩ : BufTy).Contents (Elt F)),
    StableHlo.nullary main_cst_4 (constant S_ .f32 0x40000000#32),
    StableHlo.unary main_cst_4 main_v59 (broadcastInDim S1x20000 ![] bcast_S_S1x20000 : (⟨S_, .f32⟩ : BufTy).Contents (Elt F) → (⟨S1x20000, .f32⟩ : BufTy).Contents (Elt F)),
    StableHlo.binary main_v49 main_v59 main_v60 (Host.divf : (⟨S1x20000, .f32⟩ : BufTy).Contents (Elt F) → (⟨S1x20000, .f32⟩ : BufTy).Contents (Elt F) → (⟨S1x20000, .f32⟩ : BufTy).Contents (Elt F)),
    StableHlo.binary main_v42 main_v60 main_v61 (addf : (⟨S1x20000, .f32⟩ : BufTy).Contents (Elt F) → (⟨S1x20000, .f32⟩ : BufTy).Contents (Elt F) → (⟨S1x20000, .f32⟩ : BufTy).Contents (Elt F)),
    StableHlo.nullary main_cst_5 (constant S_ .f32 0x40000000#32),
    StableHlo.unary main_cst_5 main_v62 (broadcastInDim S1x20000 ![] bcast_S_S1x20000 : (⟨S_, .f32⟩ : BufTy).Contents (Elt F) → (⟨S1x20000, .f32⟩ : BufTy).Contents (Elt F)),
    StableHlo.binary main_v52 main_v62 main_v63 (Host.divf : (⟨S1x20000, .f32⟩ : BufTy).Contents (Elt F) → (⟨S1x20000, .f32⟩ : BufTy).Contents (Elt F) → (⟨S1x20000, .f32⟩ : BufTy).Contents (Elt F)),
    StableHlo.binary main_v46 main_v63 main_v64 (addf : (⟨S1x20000, .f32⟩ : BufTy).Contents (Elt F) → (⟨S1x20000, .f32⟩ : BufTy).Contents (Elt F) → (⟨S1x20000, .f32⟩ : BufTy).Contents (Elt F)) ]

theorem preOps3_sub : (preOps3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩

/-- Operations of the program before its loop: the boxes, packed. -/
abbrev preOps4 : List (HloOp τ sig (Elt F)) :=
  [ StableHlo.unary main_v55 main_v65 (broadcastInDim S1x20000x1 ![0, 1] bcast_S1x20000_S1x20000x1_0_1 : (⟨S1x20000, .f32⟩ : BufTy).Contents (Elt F) → (⟨S1x20000x1, .f32⟩ : BufTy).Contents (Elt F)),
    StableHlo.unary main_v58 main_v66 (broadcastInDim S1x20000x1 ![0, 1] bcast_S1x20000_S1x20000x1_0_1 : (⟨S1x20000, .f32⟩ : BufTy).Contents (Elt F) → (⟨S1x20000x1, .f32⟩ : BufTy).Contents (Elt F)),
    StableHlo.unary main_v61 main_v67 (broadcastInDim S1x20000x1 ![0, 1] bcast_S1x20000_S1x20000x1_0_1 : (⟨S1x20000, .f32⟩ : BufTy).Contents (Elt F) → (⟨S1x20000x1, .f32⟩ : BufTy).Contents (Elt F)),
    StableHlo.unary main_v64 main_v68 (broadcastInDim S1x20000x1 ![0, 1] bcast_S1x20000_S1x20000x1_0_1 : (⟨S1x20000, .f32⟩ : BufTy).Contents (Elt F) → (⟨S1x20000x1, .f32⟩ : BufTy).Contents (Elt F)),
    StableHlo.nary ![main_v65, main_v66, main_v67, main_v68] main_v69 (fun u => (concatenate S1x20000x4 2 [⟨S1x20000x1, (u 0 : (⟨S1x20000x1, .f32⟩ : BufTy).Contents (Elt F))⟩, ⟨S1x20000x1, (u 1 : (⟨S1x20000x1, .f32⟩ : BufTy).Contents (Elt F))⟩, ⟨S1x20000x1, (u 2 : (⟨S1x20000x1, .f32⟩ : BufTy).Contents (Elt F))⟩, ⟨S1x20000x1, (u 3 : (⟨S1x20000x1, .f32⟩ : BufTy).Contents (Elt F))⟩] concatenates_S1x20000x1_S1x20000x1_S1x20000x1_S1x20000x1_S1x20000x4_d2 : (⟨S1x20000x4, .f32⟩ : BufTy).Contents (Elt F))),
    StableHlo.reshape main_v69 main_v70 (rfl : (.f32 : EltTy) = .f32) shapeCasts_S1x20000x4_S20000x4 ]

theorem preOps4_sub : (preOps4 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.reshape_bufs_sub ..⟩

/-- Operations of the program before its loop: the transposed scores, thresholded, and the carried values. -/
abbrev preOps5 : List (HloOp τ sig (Elt F)) :=
  [ StableHlo.unary main_v6 main_v71 ((extractStridedSlice S20000x80 ![0, 1] · slices_S20000x81_S20000x80_0_1) : (⟨S20000x81, .f32⟩ : BufTy).Contents (Elt F) → (⟨S20000x80, .f32⟩ : BufTy).Contents (Elt F)),
    StableHlo.unary main_v71 main_v72 ((transpose S80x20000 [1, 0] · transposes_S20000x80_S80x20000_1_0) : (⟨S20000x80, .f32⟩ : BufTy).Contents (Elt F) → (⟨S80x20000, .f32⟩ : BufTy).Contents (Elt F)),
    StableHlo.nullary main_cst_6 (constant S_ .f32 0x3E99999A#32),
    StableHlo.unary main_cst_6 main_v73 (broadcastInDim S80x20000 ![] bcast_S_S80x20000 : (⟨S_, .f32⟩ : BufTy).Contents (Elt F) → (⟨S80x20000, .f32⟩ : BufTy).Contents (Elt F)),
    StableHlo.binary main_v72 main_v73 main_v74 (cmpf .ogt : (⟨S80x20000, .f32⟩ : BufTy).Contents (Elt F) → (⟨S80x20000, .f32⟩ : BufTy).Contents (Elt F) → (⟨S80x20000, .i1⟩ : BufTy).Contents (Elt F)),
    StableHlo.nullary main_cst_7 (constant S_ .f32 0xBF800000#32),
    StableHlo.TRef.unary (.of main_cst_7 : StableHlo.TRef sig ⟨S_, .f32⟩) main_call0.v0 id,
    StableHlo.TRef.unary main_call0.v0 main_call0.v1 (broadcastInDim S20000 ![] bcast_S_S20000),
    StableHlo.TRef.unary main_call0.v1 main_call0.v2 (broadcastInDim S80x20000 ![1] bcast_S20000_S80x20000_1),
    StableHlo.TRef.ternary (.of main_v74 : StableHlo.TRef sig ⟨S80x20000, .i1⟩) (.of main_v72 : StableHlo.TRef sig ⟨S80x20000, .f32⟩) main_call0.v2 main_call0.v3 select,
    StableHlo.nullary main_v76 (iotaInDim S20000 32 0),
    StableHlo.nullary main_cst_8 (constant S_ .f32 0x00000000#32),
    StableHlo.unary main_cst_8 main_v77 (broadcastInDim S100x80x4 ![] bcast_S_S100x80x4 : (⟨S_, .f32⟩ : BufTy).Contents (Elt F) → (⟨S100x80x4, .f32⟩ : BufTy).Contents (Elt F)),
    StableHlo.nullary main_cst_9 (constant S_ .f32 0x00000000#32),
    StableHlo.unary main_cst_9 main_v78 (broadcastInDim S100x80 ![] bcast_S_S100x80 : (⟨S_, .f32⟩ : BufTy).Contents (Elt F) → (⟨S100x80, .f32⟩ : BufTy).Contents (Elt F)),
    StableHlo.nullary main_c (constantI S_ 32 0#32),
    StableHlo.unary main_v70 main_v79_0 id,
    StableHlo.unary main_v76 main_v79_1 id,
    StableHlo.unary main_c main_v79_2 id,
    StableHlo.unary main_v75 main_v79_3 id,
    StableHlo.unary main_v77 main_v79_4 id,
    StableHlo.unary main_v78 main_v79_5 id ]

theorem preOps5_sub : (preOps5 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.nullary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- Operations of the loop's body: best index and best score of each class. -/
abbrev bodyOps0 : List (HloOp τ sig (Elt F)) :=
  [ StableHlo.TRef.nullary main_while0b_call1.v0 (iotaInDim S80x20000 32 1),
    StableHlo.TRef.nullary main_while0b_call1.cst (constant S_ .f32 0xFF800000#32),
    StableHlo.TRef.nullary main_while0b_call1.c (constantI S_ 32 0#32),
    StableHlo.TRef.quaternary (.of main_v79_3 : StableHlo.TRef sig ⟨S80x20000, .f32⟩) main_while0b_call1.v0 main_while0b_call1.cst main_while0b_call1.c main_while0b_call1.v1_0 (fun x y u v j => (Host.argReduce reducer_argmax_f32_i32 x y u v reducesTo_S80x20000_S80_d1 h_S_ j).1),
    StableHlo.TRef.quaternary (.of main_v79_3 : StableHlo.TRef sig ⟨S80x20000, .f32⟩) main_while0b_call1.v0 main_while0b_call1.cst main_while0b_call1.c main_while0b_call1.v1_1 (fun x y u v j => (Host.argReduce reducer_argmax_f32_i32 x y u v reducesTo_S80x20000_S80_d1 h_S_ j).2),
    StableHlo.nullary main_while0b_cst_16 (constant S_ .f32 0xFF800000#32),
    StableHlo.binary main_v79_3 main_while0b_cst_16 main_while0b_v88 ((fun x v => Host.reduce FloatOps.maximumf x v reducesTo_S80x20000_S80_d1 h_S_) : (⟨S80x20000, .f32⟩ : BufTy).Contents (Elt F) → (⟨S_, .f32⟩ : BufTy).Contents (Elt F) → (⟨S80, .f32⟩ : BufTy).Contents (Elt F)) ]

theorem bodyOps0_sub : (bodyOps0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub .., StableHlo.nullary_bufs_sub .., StableHlo.binary_bufs_sub ..⟩

/-- Operations of the loop's body: the selected boxes. -/
abbrev bodyOps1 : List (HloOp τ sig (Elt F)) :=
  [ StableHlo.nullary main_while0b_cst_17 (constant S_ .f32 0x00000000#32),
    StableHlo.unary main_while0b_cst_17 main_while0b_v89 (broadcastInDim S80 ![] bcast_S_S80 : (⟨S_, .f32⟩ : BufTy).Contents (Elt F) → (⟨S80, .f32⟩ : BufTy).Contents (Elt F)),
    StableHlo.binary main_while0b_v88 main_while0b_v89 main_while0b_v90 (cmpf .ogt : (⟨S80, .f32⟩ : BufTy).Contents (Elt F) → (⟨S80, .f32⟩ : BufTy).Contents (Elt F) → (⟨S80, .i1⟩ : BufTy).Contents (Elt F)),
    StableHlo.nullary main_while0b_c_18 (constantI S_ 32 0#32),
    StableHlo.unary main_while0b_c_18 main_while0b_v91 (broadcastInDim S80 ![] bcast_S_S80 : (⟨S_, .i32⟩ : BufTy).Contents (Elt F) → (⟨S80, .i32⟩ : BufTy).Contents (Elt F)),
    StableHlo.binary main_while0b_v87 main_while0b_v91 main_while0b_v92 (cmpi .slt : (⟨S80, .i32⟩ : BufTy).Contents (Elt F) → (⟨S80, .i32⟩ : BufTy).Contents (Elt F) → (⟨S80, .i1⟩ : BufTy).Contents (Elt F)),
    StableHlo.nullary main_while0b_c_19 (constantI S_ 32 20000#32),
    StableHlo.unary main_while0b_c_19 main_while0b_v93 (broadcastInDim S80 ![] bcast_S_S80 : (⟨S_, .i32⟩ : BufTy).Contents (Elt F) → (⟨S80, .i32⟩ : BufTy).Contents (Elt F)),
    StableHlo.binary main_while0b_v87 main_while0b_v93 main_while0b_v94 (addi : (⟨S80, .i32⟩ : BufTy).Contents (Elt F) → (⟨S80, .i32⟩ : BufTy).Contents (Elt F) → (⟨S80, .i32⟩ : BufTy).Contents (Elt F)),
    StableHlo.ternary main_while0b_v92 main_while0b_v94 main_while0b_v87 main_while0b_v95 (select : (⟨S80, .i1⟩ : BufTy).Contents (Elt F) → (⟨S80, .i32⟩ : BufTy).Contents (Elt F) → (⟨S80, .i32⟩ : BufTy).Contents (Elt F) → (⟨S80, .i32⟩ : BufTy).Contents (Elt F)),
    StableHlo.nullary main_while0b_c_20 (constantI S_ 32 0#32),
    StableHlo.nullary main_while0b_c_21 (constantI S_ 32 0#32),
    StableHlo.binary main_while0b_c_20 main_while0b_c_21 main_while0b_v96 (cmpi .slt : (⟨S_, .i32⟩ : BufTy).Contents (Elt F) → (⟨S_, .i32⟩ : BufTy).Contents (Elt F) → (⟨S_, .i1⟩ : BufTy).Contents (Elt F)),
    StableHlo.nullary main_while0b_c_22 (constantI S_ 32 0#32),
    StableHlo.nullary main_while0b_c_23 (constantI S_ 32 4#32),
    StableHlo.binary main_while0b_c_22 main_while0b_c_23 main_while0b_v97 (addi : (⟨S_, .i32⟩ : BufTy).Contents (Elt F) → (⟨S_, .i32⟩ : BufTy).Contents (Elt F) → (⟨S_, .i32⟩ : BufTy).Contents (Elt F)),
    StableHlo.nullary main_while0b_c_24 (constantI S_ 32 0#32),
    StableHlo.ternary main_while0b_v96 main_while0b_v97 main_while0b_c_24 main_while0b_v98 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v95 main_while0b_v99 (broadcastInDim S80x1 ![0] bcast_S80_S80x1_0 : (⟨S80, .i32⟩ : BufTy).Contents (Elt F) → (⟨S80x1, .i32⟩ : BufTy).Contents (Elt F)),
    StableHlo.unary main_while0b_v98 main_while0b_v100 (broadcastInDim S80x1 ![] bcast_S_S80x1 : (⟨S_, .i32⟩ : BufTy).Contents (Elt F) → (⟨S80x1, .i32⟩ : BufTy).Contents (Elt F)),
    StableHlo.binary main_while0b_v99 main_while0b_v100 main_while0b_v101 ((fun a b => concatenate S80x2 1 [⟨S80x1, a⟩, ⟨S80x1, b⟩] concatenates_S80x1_S80x1_S80x2_d1) : (⟨S80x1, .i32⟩ : BufTy).Contents (Elt F) → (⟨S80x1, .i32⟩ : BufTy).Contents (Elt F) → (⟨S80x2, .i32⟩ : BufTy).Contents (Elt F)),
    StableHlo.binary main_v79_0 main_while0b_v101 main_while0b_v102 ((fun x i => Host.gather gather_S20000x4_S80x2_S80x1x4_12_n_n_n_01_1_14 x i) : (⟨S20000x4, .f32⟩ : BufTy).Contents (Elt F) → (⟨S80x2, .i32⟩ : BufTy).Contents (Elt F) → (⟨S80x1x4, .f32⟩ : BufTy).Contents (Elt F)),
    StableHlo.reshape main_while0b_v102 main_while0b_v103 (rfl : (.f32 : EltTy) = .f32) shapeCasts_S80x1x4_S80x4 ]

theorem bodyOps1_sub : (bodyOps1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unary_bufs_sub .., StableHlo.unary_bufs_sub .., StableHlo.binary_bufs_sub .., StableHlo.binary_bufs_sub .., StableHlo.reshape_bufs_sub ..⟩

/-- Operations of the loop's body: the intersections. -/
abbrev bodyOps2 : List (HloOp τ sig (Elt F)) :=
  [ StableHlo.unary main_while0b_v103 main_while0b_v104 ((extractStridedSlice S80x2 ![0, 0] · slices_S80x4_S80x2_0_0) : (⟨S80x4, .f32⟩ : BufTy).Contents (Elt F) → (⟨S80x2, .f32⟩ : BufTy).Contents (Elt F)),
    StableHlo.unary main_v79_0 main_while0b_v105 ((extractStridedSlice S20000x2 ![0, 0] · slices_S20000x4_S20000x2_0_0) : (⟨S20000x4, .f32⟩ : BufTy).Contents (Elt F) → (⟨S20000x2, .f32⟩ : BufTy).Contents (Elt F)),
    StableHlo.unary main_while0b_v104 main_while0b_v106 (broadcastInDim S80x1x2 ![0, 2] bcast_S80x2_S80x1x2_0_2 : (⟨S80x2, .f32⟩ : BufTy).Contents (Elt F) → (⟨S80x1x2, .f32⟩ : BufTy).Contents (Elt F)),
    StableHlo.unary main_while0b_v105 main_while0b_v107 (broadcastInDim S1x20000x2 ![1, 2] bcast_S20000x2_S1x20000x2_1_2 : (⟨S20000x2, .f32⟩ : BufTy).Contents (Elt F) → (⟨S1x20000x2, .f32⟩ : BufTy).Contents (Elt F)),
    StableHlo.unary main_while0b_v106 main_while0b_v108 (broadcastInDim S80x20000x2 ![0, 1, 2] bcast_S80x1x2_S80x20000x2_0_1_2 : (⟨S80x1x2, .f32⟩ : BufTy).Contents (Elt F) → (⟨S80x20000x2, .f32⟩ : BufTy).Contents (Elt F)),
    StableHlo.unary main_while0b_v107 main_while0b_v109 (broadcastInDim S80x20000x2 ![0, 1, 2] bcast_S1x20000x2_S80x20000x2_0_1_2 : (⟨S1x20000x2, .f32⟩ : BufTy).Contents (Elt F) → (⟨S80x20000x2, .f32⟩ : BufTy).Contents (Elt F)),
    StableHlo.binary main_while0b_v108 main_while0b_v109 main_while0b_v110 (maximumf : (⟨S80x20000x2, .f32⟩ : BufTy).Contents (Elt F) → (⟨S80x20000x2, .f32⟩ : BufTy).Contents (Elt F) → (⟨S80x20000x2, .f32⟩ : BufTy).Contents (Elt F)),
    StableHlo.unary main_while0b_v103 main_while0b_v111 ((extractStridedSlice S80x2 ![0, 2] · slices_S80x4_S80x2_0_2) : (⟨S80x4, .f32⟩ : BufTy).Contents (Elt F) → (⟨S80x2, .f32⟩ : BufTy).Contents (Elt F)),
    StableHlo.unary main_v79_0 main_while0b_v112 ((extractStridedSlice S20000x2 ![0, 2] · slices_S20000x4_S20000x2_0_2) : (⟨S20000x4, .f32⟩ : BufTy).Contents (Elt F) → (⟨S20000x2, .f32⟩ : BufTy).Contents (Elt F)),
    StableHlo.unary main_while0b_v111 main_while0b_v113 (broadcastInDim S80x1x2 ![0, 2] bcast_S80x2_S80x1x2_0_2 : (⟨S80x2, .f32⟩ : BufTy).Contents (Elt F) → (⟨S80x1x2, .f32⟩ : BufTy).Contents (Elt F)),
    StableHlo.unary main_while0b_v112 main_while0b_v114 (broadcastInDim S1x20000x2 ![1, 2] bcast_S20000x2_S1x20000x2_1_2 : (⟨S20000x2, .f32⟩ : BufTy).Contents (Elt F) → (⟨S1x20000x2, .f32⟩ : BufTy).Contents (Elt F)),
    StableHlo.unary main_while0b_v113 main_while0b_v115 (broadcastInDim S80x20000x2 ![0, 1, 2] bcast_S80x1x2_S80x20000x2_0_1_2 : (⟨S80x1x2, .f32⟩ : BufTy).Contents (Elt F) → (⟨S80x20000x2, .f32⟩ : BufTy).Contents (Elt F)),
    StableHlo.unary main_while0b_v114 main_while0b_v116 (broadcastInDim S80x20000x2 ![0, 1, 2] bcast_S1x20000x2_S80x20000x2_0_1_2 : (⟨S1x20000x2, .f32⟩ : BufTy).Contents (Elt F) → (⟨S80x20000x2, .f32⟩ : BufTy).Contents (Elt F)),
    StableHlo.binary main_while0b_v115 main_while0b_v116 main_while0b_v117 (minimumf : (⟨S80x20000x2, .f32⟩ : BufTy).Contents (Elt F) → (⟨S80x20000x2, .f32⟩ : BufTy).Contents (Elt F) → (⟨S80x20000x2, .f32⟩ : BufTy).Contents (Elt F)),
    StableHlo.binary main_while0b_v117 main_while0b_v110 main_while0b_v118 (subf : (⟨S80x20000x2, .f32⟩ : BufTy).Contents (Elt F) → (⟨S80x20000x2, .f32⟩ : BufTy).Contents (Elt F) → (⟨S80x20000x2, .f32⟩ : BufTy).Contents (Elt F)),
    StableHlo.nullary main_while0b_cst_25 (constant S_ .f32 0x00000000#32),
    StableHlo.unary main_while0b_cst_25 main_while0b_v119 (broadcastInDim S80x20000x2 ![] bcast_S_S80x20000x2 : (⟨S_, .f32⟩ : BufTy).Contents (Elt F) → (⟨S80x20000x2, .f32⟩ : BufTy).Contents (Elt F)),
    StableHlo.binary main_while0b_v118 main_while0b_v119 main_while0b_v120 (maximumf : (⟨S80x20000x2, .f32⟩ : BufTy).Contents (Elt F) → (⟨S80x20000x2, .f32⟩ : BufTy).Contents (Elt F) → (⟨S80x20000x2, .f32⟩ : BufTy).Contents (Elt F)),
    StableHlo.unary main_while0b_v120 main_while0b_v121 ((extractStridedSlice S80x20000x1 ![0, 0, 0] · slices_S80x20000x2_S80x20000x1_0_0_0) : (⟨S80x20000x2, .f32⟩ : BufTy).Contents (Elt F) → (⟨S80x20000x1, .f32⟩ : BufTy).Contents (Elt F)),
    StableHlo.reshape main_while0b_v121 main_while0b_v122 (rfl : (.f32 : EltTy) = .f32) shapeCasts_S80x20000x1_S80x20000,
    StableHlo.unary main_while0b_v120 main_while0b_v123 ((extractStridedSlice S80x20000x1 ![0, 0, 1] · slices_S80x20000x2_S80x20000x1_0_0_1) : (⟨S80x20000x2, .f32⟩ : BufTy).Contents (Elt F) → (⟨S80x20000x1, .f32⟩ : BufTy).Contents (Elt F)),
    StableHlo.reshape main_while0b_v123 main_while0b_v124 (rfl : (.f32 : EltTy) = .f32) shapeCasts_S80x20000x1_S80x20000,
    StableHlo.binary main_while0b_v122 main_while0b_v124 main_while0b_v125 (mulf : (⟨S80x20000, .f32⟩ : BufTy).Contents (Elt F) → (⟨S80x20000, .f32⟩ : BufTy).Contents (Elt F) → (⟨S80x20000, .f32⟩ : BufTy).Contents (Elt F)) ]

theorem bodyOps2_sub : (bodyOps2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub ..⟩

/-- Operations of the loop's body: the two areas. -/
abbrev bodyOps3 : List (HloOp τ sig (Elt F)) :=
  [ StableHlo.unary main_while0b_v103 main_while0b_v126 ((extractStridedSlice S80x1 ![0, 2] · slices_S80x4_S80x1_0_2) : (⟨S80x4, .f32⟩ : BufTy).Contents (Elt F) → (⟨S80x1, .f32⟩ : BufTy).Contents (Elt F)),
    StableHlo.reshape main_while0b_v126 main_while0b_v127 (rfl : (.f32 : EltTy) = .f32) shapeCasts_S80x1_S80,
    StableHlo.unary main_while0b_v103 main_while0b_v128 ((extractStridedSlice S80x1 ![0, 0] · slices_S80x4_S80x1_0_0) : (⟨S80x4, .f32⟩ : BufTy).Contents (Elt F) → (⟨S80x1, .f32⟩ : BufTy).Contents (Elt F)),
    StableHlo.reshape main_while0b_v128 main_while0b_v129 (rfl : (.f32 : EltTy) = .f32) shapeCasts_S80x1_S80,
    StableHlo.binary main_while0b_v127 main_while0b_v129 main_while0b_v130 (subf : (⟨S80, .f32⟩ : BufTy).Contents (Elt F) → (⟨S80, .f32⟩ : BufTy).Contents (Elt F) → (⟨S80, .f32⟩ : BufTy).Contents (Elt F)),
    StableHlo.nullary main_while0b_cst_26 (constant S_ .f32 0x00000000#32),
    StableHlo.unary main_while0b_cst_26 main_while0b_v131 (broadcastInDim S80 ![] bcast_S_S80 : (⟨S_, .f32⟩ : BufTy).Contents (Elt F) → (⟨S80, .f32⟩ : BufTy).Contents (Elt F)),
    StableHlo.binary main_while0b_v130 main_while0b_v131 main_while0b_v132 (maximumf : (⟨S80, .f32⟩ : BufTy).Contents (Elt F) → (⟨S80, .f32⟩ : BufTy).Contents (Elt F) → (⟨S80, .f32⟩ : BufTy).Contents (Elt F)),
    StableHlo.unary main_while0b_v103 main_while0b_v133 ((extractStridedSlice S80x1 ![0, 3] · slices_S80x4_S80x1_0_3) : (⟨S80x4, .f32⟩ : BufTy).Contents (Elt F) → (⟨S80x1, .f32⟩ : BufTy).Contents (Elt F)),
    StableHlo.reshape main_while0b_v133 main_while0b_v134 (rfl : (.f32 : EltTy) = .f32) shapeCasts_S80x1_S80,
    StableHlo.unary main_while0b_v103 main_while0b_v135 ((extractStridedSlice S80x1 ![0, 1] · slices_S80x4_S80x1_0_1) : (⟨S80x4, .f32⟩ : BufTy).Contents (Elt F) → (⟨S80x1, .f32⟩ : BufTy).Contents (Elt F)),
    StableHlo.reshape main_while0b_v135 main_while0b_v136 (rfl : (.f32 : EltTy) = .f32) shapeCasts_S80x1_S80,
    StableHlo.binary main_while0b_v134 main_while0b_v136 main_while0b_v137 (subf : (⟨S80, .f32⟩ : BufTy).Contents (Elt F) → (⟨S80, .f32⟩ : BufTy).Contents (Elt F) → (⟨S80, .f32⟩ : BufTy).Contents (Elt F)),
    StableHlo.nullary main_while0b_cst_27 (constant S_ .f32 0x00000000#32),
    StableHlo.unary main_while0b_cst_27 main_while0b_v138 (broadcastInDim S80 ![] bcast_S_S80 : (⟨S_, .f32⟩ : BufTy).Contents (Elt F) → (⟨S80, .f32⟩ : BufTy).Contents (Elt F)),
    StableHlo.binary main_while0b_v137 main_while0b_v138 main_while0b_v139 (maximumf : (⟨S80, .f32⟩ : BufTy).Contents (Elt F) → (⟨S80, .f32⟩ : BufTy).Contents (Elt F) → (⟨S80, .f32⟩ : BufTy).Contents (Elt F)),
    StableHlo.binary main_while0b_v132 main_while0b_v139 main_while0b_v140 (mulf : (⟨S80, .f32⟩ : BufTy).Contents (Elt F) → (⟨S80, .f32⟩ : BufTy).Contents (Elt F) → (⟨S80, .f32⟩ : BufTy).Contents (Elt F)),
    StableHlo.unary main_v79_0 main_while0b_v141 ((extractStridedSlice S20000x1 ![0, 2] · slices_S20000x4_S20000x1_0_2) : (⟨S20000x4, .f32⟩ : BufTy).Contents (Elt F) → (⟨S20000x1, .f32⟩ : BufTy).Contents (Elt F)),
    StableHlo.reshape main_while0b_v141 main_while0b_v142 (rfl : (.f32 : EltTy) = .f32) shapeCasts_S20000x1_S20000,
    StableHlo.unary main_v79_0 main_while0b_v143 ((extractStridedSlice S20000x1 ![0, 0] · slices_S20000x4_S20000x1_0_0) : (⟨S20000x4, .f32⟩ : BufTy).Contents (Elt F) → (⟨S20000x1, .f32⟩ : BufTy).Contents (Elt F)),
    StableHlo.reshape main_while0b_v143 main_while0b_v144 (rfl : (.f32 : EltTy) = .f32) shapeCasts_S20000x1_S20000,
    StableHlo.binary main_while0b_v142 main_while0b_v144 main_while0b_v145 (subf : (⟨S20000, .f32⟩ : BufTy).Contents (Elt F) → (⟨S20000, .f32⟩ : BufTy).Contents (Elt F) → (⟨S20000, .f32⟩ : BufTy).Contents (Elt F)),
    StableHlo.nullary main_while0b_cst_28 (constant S_ .f32 0x00000000#32),
    StableHlo.unary main_while0b_cst_28 main_while0b_v146 (broadcastInDim S20000 ![] bcast_S_S20000 : (⟨S_, .f32⟩ : BufTy).Contents (Elt F) → (⟨S20000, .f32⟩ : BufTy).Contents (Elt F)),
    StableHlo.binary main_while0b_v145 main_while0b_v146 main_while0b_v147 (maximumf : (⟨S20000, .f32⟩ : BufTy).Contents (Elt F) → (⟨S20000, .f32⟩ : BufTy).Contents (Elt F) → (⟨S20000, .f32⟩ : BufTy).Contents (Elt F)),
    StableHlo.unary main_v79_0 main_while0b_v148 ((extractStridedSlice S20000x1 ![0, 3] · slices_S20000x4_S20000x1_0_3) : (⟨S20000x4, .f32⟩ : BufTy).Contents (Elt F) → (⟨S20000x1, .f32⟩ : BufTy).Contents (Elt F)),
    StableHlo.reshape main_while0b_v148 main_while0b_v149 (rfl : (.f32 : EltTy) = .f32) shapeCasts_S20000x1_S20000,
    StableHlo.unary main_v79_0 main_while0b_v150 ((extractStridedSlice S20000x1 ![0, 1] · slices_S20000x4_S20000x1_0_1) : (⟨S20000x4, .f32⟩ : BufTy).Contents (Elt F) → (⟨S20000x1, .f32⟩ : BufTy).Contents (Elt F)),
    StableHlo.reshape main_while0b_v150 main_while0b_v151 (rfl : (.f32 : EltTy) = .f32) shapeCasts_S20000x1_S20000,
    StableHlo.binary main_while0b_v149 main_while0b_v151 main_while0b_v152 (subf : (⟨S20000, .f32⟩ : BufTy).Contents (Elt F) → (⟨S20000, .f32⟩ : BufTy).Contents (Elt F) → (⟨S20000, .f32⟩ : BufTy).Contents (Elt F)),
    StableHlo.nullary main_while0b_cst_29 (constant S_ .f32 0x00000000#32),
    StableHlo.unary main_while0b_cst_29 main_while0b_v153 (broadcastInDim S20000 ![] bcast_S_S20000 : (⟨S_, .f32⟩ : BufTy).Contents (Elt F) → (⟨S20000, .f32⟩ : BufTy).Contents (Elt F)),
    StableHlo.binary main_while0b_v152 main_while0b_v153 main_while0b_v154 (maximumf : (⟨S20000, .f32⟩ : BufTy).Contents (Elt F) → (⟨S20000, .f32⟩ : BufTy).Contents (Elt F) → (⟨S20000, .f32⟩ : BufTy).Contents (Elt F)),
    StableHlo.binary main_while0b_v147 main_while0b_v154 main_while0b_v155 (mulf : (⟨S20000, .f32⟩ : BufTy).Contents (Elt F) → (⟨S20000, .f32⟩ : BufTy).Contents (Elt F) → (⟨S20000, .f32⟩ : BufTy).Contents (Elt F)) ]

theorem bodyOps3_sub : (bodyOps3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub ..⟩

/-- Operations of the loop's body: the ratio and the next scores. -/
abbrev bodyOps4 : List (HloOp τ sig (Elt F)) :=
  [ StableHlo.unary main_while0b_v155 main_while0b_v156 (broadcastInDim S1x20000 ![1] bcast_S20000_S1x20000_1 : (⟨S20000, .f32⟩ : BufTy).Contents (Elt F) → (⟨S1x20000, .f32⟩ : BufTy).Contents (Elt F)),
    StableHlo.unary main_while0b_v140 main_while0b_v157 (broadcastInDim S80x1 ![0] bcast_S80_S80x1_0 : (⟨S80, .f32⟩ : BufTy).Contents (Elt F) → (⟨S80x1, .f32⟩ : BufTy).Contents (Elt F)),
    StableHlo.unary main_while0b_v157 main_while0b_v158 (broadcastInDim S80x20000 ![0, 1] bcast_S80x1_S80x20000_0_1 : (⟨S80x1, .f32⟩ : BufTy).Contents (Elt F) → (⟨S80x20000, .f32⟩ : BufTy).Contents (Elt F)),
    StableHlo.unary main_while0b_v156 main_while0b_v159 (broadcastInDim S80x20000 ![0, 1] bcast_S1x20000_S80x20000_0_1 : (⟨S1x20000, .f32⟩ : BufTy).Contents (Elt F) → (⟨S80x20000, .f32⟩ : BufTy).Contents (Elt F)),
    StableHlo.binary main_while0b_v158 main_while0b_v159 main_while0b_v160 (addf : (⟨S80x20000, .f32⟩ : BufTy).Contents (Elt F) → (⟨S80x20000, .f32⟩ : BufTy).Contents (Elt F) → (⟨S80x20000, .f32⟩ : BufTy).Contents (Elt F)),
    StableHlo.binary main_while0b_v160 main_while0b_v125 main_while0b_v161 (subf : (⟨S80x20000, .f32⟩ : BufTy).Contents (Elt F) → (⟨S80x20000, .f32⟩ : BufTy).Contents (Elt F) → (⟨S80x20000, .f32⟩ : BufTy).Contents (Elt F)),
    StableHlo.nullary main_while0b_cst_30 (constant S_ .f32 0x3089705F#32),
    StableHlo.unary main_while0b_cst_30 main_while0b_v162 (broadcastInDim S80x20000 ![] bcast_S_S80x20000 : (⟨S_, .f32⟩ : BufTy).Contents (Elt F) → (⟨S80x20000, .f32⟩ : BufTy).Contents (Elt F)),
    StableHlo.binary main_while0b_v161 main_while0b_v162 main_while0b_v163 (addf : (⟨S80x20000, .f32⟩ : BufTy).Contents (Elt F) → (⟨S80x20000, .f32⟩ : BufTy).Contents (Elt F) → (⟨S80x20000, .f32⟩ : BufTy).Contents (Elt F)),
    StableHlo.binary main_while0b_v125 main_while0b_v163 main_while0b_v164 (Host.divf : (⟨S80x20000, .f32⟩ : BufTy).Contents (Elt F) → (⟨S80x20000, .f32⟩ : BufTy).Contents (Elt F) → (⟨S80x20000, .f32⟩ : BufTy).Contents (Elt F)),
    StableHlo.nullary main_while0b_cst_31 (constant S_ .f32 0x3F19999A#32),
    StableHlo.unary main_while0b_cst_31 main_while0b_v165 (broadcastInDim S80x20000 ![] bcast_S_S80x20000 : (⟨S_, .f32⟩ : BufTy).Contents (Elt F) → (⟨S80x20000, .f32⟩ : BufTy).Contents (Elt F)),
    StableHlo.binary main_while0b_v164 main_while0b_v165 main_while0b_v166 (cmpf .ogt : (⟨S80x20000, .f32⟩ : BufTy).Contents (Elt F) → (⟨S80x20000, .f32⟩ : BufTy).Contents (Elt F) → (⟨S80x20000, .i1⟩ : BufTy).Contents (Elt F)),
    StableHlo.unary main_v79_1 main_while0b_v167 (broadcastInDim S1x20000 ![1] bcast_S20000_S1x20000_1 : (⟨S20000, .i32⟩ : BufTy).Contents (Elt F) → (⟨S1x20000, .i32⟩ : BufTy).Contents (Elt F)),
    StableHlo.unary main_while0b_v87 main_while0b_v168 (broadcastInDim S80x1 ![0] bcast_S80_S80x1_0 : (⟨S80, .i32⟩ : BufTy).Contents (Elt F) → (⟨S80x1, .i32⟩ : BufTy).Contents (Elt F)),
    StableHlo.unary main_while0b_v167 main_while0b_v169 (broadcastInDim S80x20000 ![0, 1] bcast_S1x20000_S80x20000_0_1 : (⟨S1x20000, .i32⟩ : BufTy).Contents (Elt F) → (⟨S80x20000, .i32⟩ : BufTy).Contents (Elt F)),
    StableHlo.unary main_while0b_v168 main_while0b_v170 (broadcastInDim S80x20000 ![0, 1] bcast_S80x1_S80x20000_0_1 : (⟨S80x1, .i32⟩ : BufTy).Contents (Elt F) → (⟨S80x20000, .i32⟩ : BufTy).Contents (Elt F)),
    StableHlo.binary main_while0b_v169 main_while0b_v170 main_while0b_v171 (cmpi .eq : (⟨S80x20000, .i32⟩ : BufTy).Contents (Elt F) → (⟨S80x20000, .i32⟩ : BufTy).Contents (Elt F) → (⟨S80x20000, .i1⟩ : BufTy).Contents (Elt F)),
    StableHlo.binary main_while0b_v166 main_while0b_v171 main_while0b_v172 (ori : (⟨S80x20000, .i1⟩ : BufTy).Contents (Elt F) → (⟨S80x20000, .i1⟩ : BufTy).Contents (Elt F) → (⟨S80x20000, .i1⟩ : BufTy).Contents (Elt F)),
    StableHlo.nullary main_while0b_cst_32 (constant S_ .f32 0xBF800000#32),
    StableHlo.TRef.unary (.of main_while0b_cst_32 : StableHlo.TRef sig ⟨S_, .f32⟩) main_while0b_call2.v0 id,
    StableHlo.TRef.unary main_while0b_call2.v0 main_while0b_call2.v1 (broadcastInDim S20000 ![] bcast_S_S20000),
    StableHlo.TRef.unary main_while0b_call2.v1 main_while0b_call2.v2 (broadcastInDim S80x20000 ![1] bcast_S20000_S80x20000_1),
    StableHlo.TRef.ternary (.of main_while0b_v172 : StableHlo.TRef sig ⟨S80x20000, .i1⟩) main_while0b_call2.v2 (.of main_v79_3 : StableHlo.TRef sig ⟨S80x20000, .f32⟩) main_while0b_call2.v3 select ]

theorem bodyOps4_sub : (bodyOps4 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.unary_bufs_sub .., StableHlo.unary_bufs_sub .., StableHlo.ternary_bufs_sub ..⟩

/-- Operations of the loop's body: the outputs and the carried values. -/
abbrev bodyOps5 : List (HloOp τ sig (Elt F)) :=
  [ StableHlo.nullary main_while0b_cst_33 (constant S_ .f32 0x00000000#32),
    StableHlo.unary main_while0b_cst_33 main_while0b_v174 (broadcastInDim S4 ![] bcast_S_S4 : (⟨S_, .f32⟩ : BufTy).Contents (Elt F) → (⟨S4, .f32⟩ : BufTy).Contents (Elt F)),
    StableHlo.TRef.unary (.of main_while0b_v174 : StableHlo.TRef sig ⟨S4, .f32⟩) main_while0b_call3.v0 (broadcastInDim S80x4 ![1] bcast_S4_S80x4_1),
    StableHlo.TRef.unary (.of main_while0b_v90 : StableHlo.TRef sig ⟨S80, .i1⟩) main_while0b_call3.v1 (broadcastInDim S80x4 ![0] bcast_S80_S80x4_0),
    StableHlo.TRef.ternary main_while0b_call3.v1 (.of main_while0b_v103 : StableHlo.TRef sig ⟨S80x4, .f32⟩) main_while0b_call3.v0 main_while0b_call3.v2 select,
    StableHlo.nullary main_while0b_cst_34 (constant S_ .f32 0x00000000#32),
    StableHlo.TRef.unary (.of main_while0b_cst_34 : StableHlo.TRef sig ⟨S_, .f32⟩) main_while0b_call4.v0 id,
    StableHlo.TRef.unary main_while0b_call4.v0 main_while0b_call4.v1 (broadcastInDim S80 ![] bcast_S_S80),
    StableHlo.TRef.ternary (.of main_while0b_v90 : StableHlo.TRef sig ⟨S80, .i1⟩) (.of main_while0b_v88 : StableHlo.TRef sig ⟨S80, .f32⟩) main_while0b_call4.v1 main_while0b_call4.v2 select,
    StableHlo.TRef.unary (.of main_while0b_v175 : StableHlo.TRef sig ⟨S80x4, .f32⟩) main_while0b_call5.v0 (broadcastInDim S1x80x4 ![1, 2] bcast_S80x4_S1x80x4_1_2),
    StableHlo.TRef.nullary main_while0b_call5.c (constantI S_ 32 0#32),
    StableHlo.TRef.nullary main_while0b_call5.c_0 (constantI S_ 32 0#32),
    StableHlo.TRef.binaryIndexed (.of main_v79_4 : StableHlo.TRef sig ⟨S100x80x4, .f32⟩) main_while0b_call5.v0 ![(.of main_v79_2 : StableHlo.TRef sig ⟨S_, .i32⟩), main_while0b_call5.c, main_while0b_call5.c_0] main_while0b_call5.v1 (fun x u i => Host.dynamicUpdateSlice x u (fun k => (i k (Shape.Idx.first h_S_)).toInt) updateFits_S100x80x4_S1x80x4),
    StableHlo.TRef.unary (.of main_while0b_v176 : StableHlo.TRef sig ⟨S80, .f32⟩) main_while0b_call6.v0 (broadcastInDim S1x80 ![1] bcast_S80_S1x80_1),
    StableHlo.TRef.nullary main_while0b_call6.c (constantI S_ 32 0#32),
    StableHlo.TRef.binaryIndexed (.of main_v79_5 : StableHlo.TRef sig ⟨S100x80, .f32⟩) main_while0b_call6.v0 ![(.of main_v79_2 : StableHlo.TRef sig ⟨S_, .i32⟩), main_while0b_call6.c] main_while0b_call6.v1 (fun x u i => Host.dynamicUpdateSlice x u (fun k => (i k (Shape.Idx.first h_S_)).toInt) updateFits_S100x80_S1x80),
    StableHlo.nullary main_while0b_c_35 (constantI S_ 32 1#32),
    StableHlo.binary main_v79_2 main_while0b_c_35 main_while0b_v179 (addi : (⟨S_, .i32⟩ : BufTy).Contents (Elt F) → (⟨S_, .i32⟩ : BufTy).Contents (Elt F) → (⟨S_, .i32⟩ : BufTy).Contents (Elt F)),
    StableHlo.unary main_while0b_v179 main_v79_2 id,
    StableHlo.unary main_while0b_v173 main_v79_3 id,
    StableHlo.unary main_while0b_v177 main_v79_4 id,
    StableHlo.unary main_while0b_v178 main_v79_5 id ]

theorem bodyOps5_sub : (bodyOps5 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.unary_bufs_sub .., StableHlo.nullary_bufs_sub .., StableHlo.nullary_bufs_sub .., StableHlo.binaryIndexed_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩

/-- Operations of the program after its loop: the results. -/
abbrev postOps0 : List (HloOp τ sig (Elt F)) :=
  [ StableHlo.unary main_v79_4 main_v80 ((transpose S80x100x4 [1, 0, 2] · transposes_S100x80x4_S80x100x4_1_0_2) : (⟨S100x80x4, .f32⟩ : BufTy).Contents (Elt F) → (⟨S80x100x4, .f32⟩ : BufTy).Contents (Elt F)),
    StableHlo.unary main_v79_5 main_v81 ((transpose S80x100 [1, 0] · transposes_S100x80_S80x100_1_0) : (⟨S100x80, .f32⟩ : BufTy).Contents (Elt F) → (⟨S80x100, .f32⟩ : BufTy).Contents (Elt F)),
    StableHlo.nullary main_v82 (iotaInDim S80 32 0),
    StableHlo.nullary main_c_10 (constantI S_ 32 1#32),
    StableHlo.unary main_c_10 main_v83 (broadcastInDim S80 ![] bcast_S_S80 : (⟨S_, .i32⟩ : BufTy).Contents (Elt F) → (⟨S80, .i32⟩ : BufTy).Contents (Elt F)),
    StableHlo.binary main_v83 main_v82 main_v84 (addi : (⟨S80, .i32⟩ : BufTy).Contents (Elt F) → (⟨S80, .i32⟩ : BufTy).Contents (Elt F) → (⟨S80, .i32⟩ : BufTy).Contents (Elt F)),
    StableHlo.unary main_v84 main_v85 (broadcastInDim S80x1 ![0] bcast_S80_S80x1_0 : (⟨S80, .i32⟩ : BufTy).Contents (Elt F) → (⟨S80x1, .i32⟩ : BufTy).Contents (Elt F)),
    StableHlo.unary main_v85 main_v86 (broadcastInDim S80x100 ![0, 1] bcast_S80x1_S80x100_0_1 : (⟨S80x1, .i32⟩ : BufTy).Contents (Elt F) → (⟨S80x100, .i32⟩ : BufTy).Contents (Elt F)) ]

theorem postOps0_sub : (postOps0 : List (HloOp τ sig (Elt F))).Forall fun op => op.bufs ⊆ StableHlo.tcRefs τ sig :=
  ⟨StableHlo.unary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub ..⟩
/-- The condition's operations. -/
abbrev condOps : List (HloOp τ sig (Elt F)) :=
  [ StableHlo.nullary main_while0c_c_16 (constantI S_ 32 100#32),
    StableHlo.binary main_v79_2 main_while0c_c_16 main_while0c_v87 (cmpi .slt : (⟨S_, .i32⟩ : BufTy).Contents (Elt F) → (⟨S_, .i32⟩ : BufTy).Contents (Elt F) → (⟨S_, .i1⟩ : BufTy).Contents (Elt F)) ]

abbrev preI : List (List (HloOp τ sig (Elt F))) := [preOps0, preOps1, preOps2, preOps3, preOps4, preOps5]
abbrev bodyI : List (List (HloOp τ sig (Elt F))) := [bodyOps0, bodyOps1, bodyOps2, bodyOps3, bodyOps4, bodyOps5]
abbrev postI : List (List (HloOp τ sig (Elt F))) := [postOps0]

end Cert.Proof.R

end
-- ==== Proof.RefRun.lean ====
/-
  The reference's run: what every buffer holds at the end, and its frame.
-/
module

public import proofs.«01_k».proof.Proof.RefOps
public import Idealize.ShloMosaic.Lib.Scf.ExitTest
public import Idealize.ShloMosaic.Lib.Scf.Counter

@[expose] public section

noncomputable section

namespace Cert.Proof.R

open Cert.ReferenceIdeal Cert.ReferenceIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held Plain)

variable {F : FTy → Type} [FloatOps F]

theorem pre_plain : Plain (preI (F := F)) :=
  .cons preOps0_sub (.cons preOps1_sub (.cons preOps2_sub (.cons preOps3_sub (.cons preOps4_sub (.cons preOps5_sub .nil)))))

theorem body_plain : Plain (bodyI (F := F)) :=
  .cons bodyOps0_sub (.cons bodyOps1_sub (.cons bodyOps2_sub (.cons bodyOps3_sub (.cons bodyOps4_sub (.cons bodyOps5_sub .nil)))))

theorem post_plain : Plain (postI (F := F)) := .cons postOps0_sub .nil

set_option maxRecDepth 100000 in
/-- The body is its stretches in order. -/
theorem body_chain : main_while0_body (F := F) = Pipeline.chain (bodyI.map fun ops => (StableHlo.seq ops : Prog _ PUnit)) := by
  chain_rfl

set_option maxRecDepth 100000 in
/-- The program is its stretches in order, the loop between them. -/
theorem main_chain (c : Dev nD) : main (F := F) c
    = Pipeline.chain ((preI.map fun ops => (StableHlo.seq ops : Prog _ PUnit)) ++ HostLoop.enter 0 :: postI.map fun ops => (StableHlo.seq ops : Prog _ PUnit)) := by
  chain_rfl

/-! ## The loop's counter -/

variable (m : (ℓ : Loc nD τ sig) → Buf (Elt F) ℓ)

/-- The contents before the `k`-th run of the condition. -/
abbrev At (k : ℕ) (c : Dev nD) : Valuation τ sig (Elt F) :=
  StableHlo.atTrip condOps bodyI (StableHlo.entryContents preI m) k c

/-- The counter is one more after the body, -/
theorem ctr_body (X : Valuation τ sig (Elt F)) :
    StableHlo.afterL bodyI (after condOps X) (Proc.devRef .tc main_v79_2) = addi (X (Proc.devRef .tc main_v79_2)) (constantI S_ 32 1#32) := by
  simp only [StableHlo.afterL_cons, StableHlo.afterL_nil]
  after_reads_simp
  rfl

/-- and zero at the loop's entry, -/
theorem ctr_entry (c : Dev nD) : StableHlo.entryContents preI m c (Proc.devRef .tc main_v79_2) = fun _ => (0#32 : BitVec 32) := by
  simp only [StableHlo.entryContents, StableHlo.afterL_cons, StableHlo.afterL_nil]
  after_reads_simp
  rfl

/-- so before the `k`-th run of the condition it is `k`. -/
theorem ctr (c : Dev nD) : ∀ k, At m k c (Proc.devRef .tc main_v79_2) = fun _ => BitVec.ofNat 32 k
  | 0 => ctr_entry m c
  | k + 1 => by
    rw [At, StableHlo.atTrip_succ, ctr_body, show StableHlo.atTrip condOps bodyI (StableHlo.entryContents preI m) k c (Proc.devRef .tc main_v79_2) = _ from ctr c k]
    funext i
    show BitVec.ofNat 32 k + 1#32 = BitVec.ofNat 32 (k + 1)
    rw [BitVec.ofNat_add]

/-- For `k ≤ 100` the condition's comparison reads `1` exactly while `k < 100`. -/
theorem pred_iff (k : ℕ) (h : k ≤ 100) : Iff (IntOp.cmpi .slt (BitVec.ofNat 32 k) 100#32 = 1#1) (k < 100) := by
  have hall : ∀ k : Fin 101, Iff (IntOp.cmpi .slt (BitVec.ofNat 32 k.val) 100#32 = 1#1) (k.val < 100) := by decide
  exact hall ⟨k, by omega⟩

set_option backward.isDefEq.respectTransparency.types false in
/-- The condition's specification. -/
theorem cond_spec : StableHlo.CondSpec (pcfgs (F := F)) defs₀ loops main_while0_cond condOps bodyI (StableHlo.entryContents preI m) 100 := by
  intro k hk c bd
  have hctr := ctr m c k
  unfold main_while0_cond
  rw [wp_bind]
  iintro ⟨Hb, Hh⟩
  iapply (StableHlo.wp_hlo_within _ (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within _ (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (At m k c) main_v79_2 HostLoop.idx0)
        (HloOp.result _ (At m k c) main_while0c_c_16 HostLoop.idx0) = 1#1) (k < 100)
    rw [StableHlo.nullary_result_ne _ _ _ _ (by decide), StableHlo.nullary_result, hctr]
    exact pred_iff k hk
  isplitl [Hb]; · iexact Hb
  rw [StableHlo.after_cons, StableHlo.after_cons, StableHlo.after_nil]; iexact Hh

/-- What every buffer of core `c` holds at the end. -/
abbrev Fin (c : Dev nD) : Valuation τ sig (Elt F) := StableHlo.finalContents condOps preI bodyI postI 100 m c

/-- The reference run whole. -/
theorem ran (g : Dev nD → PrngReg) :
    θ_run defs (onTc (τ := τ) (main (F := F))) ⟨m, fun _ => 0, g⟩ (fun r => (∀ (c : Dev nD) (b : Ref sig .tc),
      (Proc.devRef .tc b : DevRef τ sig).isScoped = false → r.2.mem ((c.tc : Thread nD τ).loc b) = Fin m c (Proc.devRef .tc b))
      ∧ r.2.sem = fun _ => 0) :=
  (θ_run defs _ _).mono (fun r h => ⟨h, sem_eq_zero_of_no_sems (by decide) r.2⟩)
    (StableHlo.run_loop (pcfgs (F := F)) defs₀ loops main 0 main_while0_cond main_while0_body rfl preI bodyI postI condOps
      pre_plain body_plain post_plain main_chain body_chain 100 m g (cond_spec m))

/-! ## The arguments -/

/-- A reference the loop never writes keeps its entry contents through the trips. -/
theorem at_kept {r : Ref sig .tc} (h : ∀ X : Valuation τ sig (Elt F), StableHlo.afterL bodyI (after condOps X) (Proc.devRef .tc r) = X (Proc.devRef .tc r))
    (c : Dev nD) : ∀ k, At m k c (Proc.devRef .tc r) = StableHlo.entryContents preI m c (Proc.devRef .tc r)
  | 0 => rfl
  | k + 1 => by rw [At, StableHlo.atTrip_succ, h]; exact at_kept h c k

/-- Argument 0 ends as launched. -/
theorem fin_arg0 (c : Dev nD) : Fin m c (Proc.devRef .tc main_arg0) = m ((c : Thread nD τ).loc main_arg0) := by
  have h := at_kept m (r := main_arg0) (fun X => by simp only [StableHlo.afterL_cons, StableHlo.afterL_nil]; after_reads_simp) c 100
  simp only [Fin, StableHlo.finalContents, StableHlo.afterL_cons, StableHlo.afterL_nil]
  after_reads_simp
  refine h.trans ?_
  simp only [StableHlo.entryContents, StableHlo.afterL_cons, StableHlo.afterL_nil]
  after_reads_simp

/-- Argument 1 ends as launched. -/
theorem fin_arg1 (c : Dev nD) : Fin m c (Proc.devRef .tc main_arg1) = m ((c : Thread nD τ).loc main_arg1) := by
  have h := at_kept m (r := main_arg1) (fun X => by simp only [StableHlo.afterL_cons, StableHlo.afterL_nil]; after_reads_simp) c 100
  simp only [Fin, StableHlo.finalContents, StableHlo.afterL_cons, StableHlo.afterL_nil]
  after_reads_simp
  refine h.trans ?_
  simp only [StableHlo.entryContents, StableHlo.afterL_cons, StableHlo.afterL_nil]
  after_reads_simp

/-- Argument 2 ends as launched. -/
theorem fin_arg2 (c : Dev nD) : Fin m c (Proc.devRef .tc main_arg2) = m ((c : Thread nD τ).loc main_arg2) := by
  have h := at_kept m (r := main_arg2) (fun X => by simp only [StableHlo.afterL_cons, StableHlo.afterL_nil]; after_reads_simp) c 100
  simp only [Fin, StableHlo.finalContents, StableHlo.afterL_cons, StableHlo.afterL_nil]
  after_reads_simp
  refine h.trans ?_
  simp only [StableHlo.entryContents, StableHlo.afterL_cons, StableHlo.afterL_nil]
  after_reads_simp

/-- The reference's frame. -/
theorem framed (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c main_arg0 rfl).trans (fin_arg0 m c), (h.1 c main_arg1 rfl).trans (fin_arg1 m c),
    (h.1 c main_arg2 rfl).trans (fin_arg2 m c)⟩, h.2⟩) (ran m g)

end Cert.Proof.R

end
-- ==== Proof.Model.lean ====
/-
  Greedy suppression over one class, in plain mathematics: a row of scores, four numbers per candidate, and the first
  candidate of largest score.  Neither program's text occurs here; both are read against these definitions.
-/
module

public import Idealize.ShloMosaic.PureOps.Ideal.Laws
public import Idealize.ShloMosaic.Lib.Pointwise

@[expose] public section

noncomputable section

namespace Cert.Proof.Sel

open Idealize.ShloMosaic

/-- The corners of a candidate: left, top, right, bottom. -/
abbrev Box := Fin 4 → EReal

/-- The score of a candidate out of play. -/
abbrev low : EReal := Ideal.ofBits .f32 0xBF800000#32

/-- The least score a candidate must exceed. -/
abbrev floor : EReal := Ideal.ofBits .f32 0x3E99999A#32

/-- The overlap above which a candidate is put out of play. -/
abbrev cap : EReal := Ideal.ofBits .f32 0x3F19999A#32

/-- The area of a box. -/
def area (b : Box) : EReal := max (b 2 - b 0) 0 * max (b 3 - b 1) 0

/-- The area two boxes share. -/
def meet (a b : Box) : EReal :=
  max (min (a 2) (b 2) - max (a 0) (b 0)) 0 * max (min (a 3) (b 3) - max (a 1) (b 1)) 0

/-- Shared area over joint area. -/
def iou (a b : Box) : EReal :=
  Ideal.div (meet a b) (area a + area b - meet a b + Ideal.ofBits .f32 0x3089705F#32)

/-- The logistic function of a score. -/
abbrev squash (x : EReal) : EReal := Ideal.div 1 (1 + Ideal.exp (-x))

/-- The score a candidate enters with. -/
def start (x : EReal) : EReal := if floor < squash x then squash x else low

/-- The corners decoded from four offsets `r` and a candidate's centre and size `p`. -/
def corners (r p : Fin 4 → EReal) : Box
  | 0 => Ideal.div (r 0) (Ideal.ofBits .f32 0x41200000#32) * p 2 + p 0
      - Ideal.div (Ideal.exp (Ideal.div (r 2) (Ideal.ofBits .f32 0x40A00000#32)) * p 2) (Ideal.ofBits .f32 0x40000000#32)
  | 1 => Ideal.div (r 1) (Ideal.ofBits .f32 0x41200000#32) * p 3 + p 1
      - Ideal.div (Ideal.exp (Ideal.div (r 3) (Ideal.ofBits .f32 0x40A00000#32)) * p 3) (Ideal.ofBits .f32 0x40000000#32)
  | 2 => Ideal.div (r 0) (Ideal.ofBits .f32 0x41200000#32) * p 2 + p 0
      + Ideal.div (Ideal.exp (Ideal.div (r 2) (Ideal.ofBits .f32 0x40A00000#32)) * p 2) (Ideal.ofBits .f32 0x40000000#32)
  | 3 => Ideal.div (r 1) (Ideal.ofBits .f32 0x41200000#32) * p 3 + p 1
      + Ideal.div (Ideal.exp (Ideal.div (r 3) (Ideal.ofBits .f32 0x40A00000#32)) * p 3) (Ideal.ofBits .f32 0x40000000#32)

/-- Position `i` is the first of largest value. -/
structure First {N : ℕ} (p : Fin N → EReal) (i : Fin N) : Prop where
  top : ∀ j, p j ≤ p i
  first : ∀ j, p j = p i → i.val ≤ j.val

theorem First.unique {N : ℕ} {p : Fin N → EReal} {i j : Fin N} (hi : First p i) (hj : First p j) : i = j := by
  have h : p i = p j := le_antisymm (hj.top i) (hi.top j)
  exact Fin.ext (le_antisymm (hi.first j h.symm) (hj.first i h))

/-- A nonempty row has one. -/
theorem First.exists {N : ℕ} (hN : 0 < N) (p : Fin N → EReal) : ∃ i, First p i := by
  obtain ⟨m, -, hm⟩ := Finset.exists_max_image (Finset.univ : Finset (Fin N)) p ⟨⟨0, hN⟩, Finset.mem_univ _⟩
  obtain ⟨i, hi, hmin⟩ := Finset.exists_min_image (Finset.univ.filter fun j => p j = p m) (fun j => j.val)
    ⟨m, Finset.mem_filter.mpr ⟨Finset.mem_univ _, rfl⟩⟩
  have hi' : p i = p m := (Finset.mem_filter.mp hi).2
  exact ⟨i, fun j => hi' ▸ hm j (Finset.mem_univ _), fun j hj => hmin j (Finset.mem_filter.mpr ⟨Finset.mem_univ _, hj.trans hi'⟩)⟩

/-- The scores after the candidate at `i` is taken. -/
def next {N : ℕ} (p : Fin N → EReal) (b : Fin N → Box) (i n : Fin N) : EReal :=
  if cap < iou (b i) (b n) ∨ n = i then low else p n

/-- What is written out for the candidate at `i`: its value where its score is positive, zero otherwise. -/
def shown (s x : EReal) : EReal := if 0 < s then x else 0

theorem low_eq : low = ((-1 : ℝ) : EReal) := by
  simp [low, Ideal.ofBits, Ideal.ieee, -EReal.coe_mul, -EReal.coe_neg]; norm_num

theorem floor_eq : floor = ((10066330 * (2 : ℝ) ^ (-25 : ℤ) : ℝ) : EReal) := by
  simp [floor, Ideal.ofBits, Ideal.ieee]

theorem low_le_floor : low ≤ floor := by
  rw [low_eq, floor_eq, EReal.coe_le_coe_iff]
  norm_num

theorem bot_lt_low : ⊥ < low := by rw [low_eq]; exact EReal.bot_lt_coe _

/-- No score falls below that of a candidate out of play, at the start, -/
theorem low_le_start (x : EReal) : low ≤ start x := by
  unfold start
  split
  · next h => exact low_le_floor.trans h.le
  · exact le_rfl

/-- and after each candidate taken. -/
theorem low_le_next {N : ℕ} {p : Fin N → EReal} (b : Fin N → Box) (i : Fin N) (h : ∀ n, low ≤ p n) (n : Fin N) :
    low ≤ next p b i n := by
  unfold next
  split
  · exact le_rfl
  · exact h n

/-- A candidate of score below minus a million enters out of play. -/
theorem start_pad : start (Ideal.ofBits .f32 0xCE6E6B28#32) = low := by
  have e : Ideal.ofBits .f32 0xCE6E6B28#32 = ((-1000000000 : ℝ) : EReal) := by
    simp [Ideal.ofBits, Ideal.ieee, -EReal.coe_mul, -EReal.coe_neg]; norm_num
  unfold start
  rw [if_neg]
  rw [not_lt, squash, e, ← EReal.coe_neg, neg_neg, floor_eq]
  show Ideal.div 1 (1 + ((Real.exp 1000000000 : ℝ) : EReal)) ≤ _
  have hp : (0 : ℝ) < 1 + Real.exp 1000000000 := by positivity
  have h1 : (1 : EReal) + ((Real.exp 1000000000 : ℝ) : EReal) = ((1 + Real.exp 1000000000 : ℝ) : EReal) := by
    rw [EReal.coe_add]; rfl
  rw [h1, Ideal.div, if_neg (by exact_mod_cast hp.ne'), one_mul, ← EReal.coe_inv, EReal.coe_le_coe_iff]
  have hb : (1000000001 : ℝ) ≤ 1 + Real.exp 1000000000 := by
    have := Real.add_one_le_exp (1000000000 : ℝ)
    linarith
  calc (1 + Real.exp 1000000000)⁻¹ ≤ (1000000001 : ℝ)⁻¹ := inv_anti₀ (by norm_num) hb
    _ ≤ _ := by norm_num

/-! ## The whole selection -/

/-- The position taken from a row of scores. -/
def pick {N : ℕ} [NeZero N] (p : Fin N → EReal) : Fin N := Classical.choose (First.exists (Nat.pos_of_ne_zero (NeZero.ne N)) p)

theorem pick_first {N : ℕ} [NeZero N] (p : Fin N → EReal) : First p (pick p) :=
  Classical.choose_spec (First.exists (Nat.pos_of_ne_zero (NeZero.ne N)) p)

/-- The scores after `k` candidates are taken. -/
def row {N : ℕ} [NeZero N] (x : Fin N → EReal) (b : Fin N → Box) : ℕ → Fin N → EReal
  | 0 => fun n => start (x n)
  | k + 1 => next (row x b k) b (pick (row x b k))

theorem low_le_row {N : ℕ} [NeZero N] (x : Fin N → EReal) (b : Fin N → Box) : ∀ k n, low ≤ row x b k n
  | 0, n => low_le_start _
  | k + 1, n => low_le_next b _ (low_le_row x b k) n

/-- The `k`-th score written out, -/
def outScore {N : ℕ} [NeZero N] (x : Fin N → EReal) (b : Fin N → Box) (k : ℕ) : EReal :=
  shown (row x b k (pick (row x b k))) (row x b k (pick (row x b k)))

/-- and the `k`-th box. -/
def outBox {N : ℕ} [NeZero N] (x : Fin N → EReal) (b : Fin N → Box) (k : ℕ) (d : Fin 4) : EReal :=
  shown (row x b k (pick (row x b k))) (b (pick (row x b k)) d)

end Cert.Proof.Sel

end
-- ==== Proof.KPick.lean ====
/-
  One trip of the suppression kernel, class by class: the first candidate of largest score is found by a maximum, a
  comparison and a minimum over positions, and its corners by sums against the position's indicator.
-/
module

public import proofs.«01_k».proof.Proof.Model
public import proofs.«01_k».proof.Proof.Gen.KernelIdeal.Skeleton
public import Idealize.ShloMosaic.Lib.Pointwise
public import Idealize.ShloMosaic.Lib.WordCmp

@[expose] public section

noncomputable section

namespace Cert.Proof.K

open Cert.KernelIdeal Cert.KernelIdeal.Gen
open Idealize.ShloMosaic Idealize.ShloMosaic.Pointwise

/-- Candidate `n`'s row of the tile, -/
abbrev rowOf (n : Fin 20000) : Fin 160 := ⟨n.val / 128, by omega⟩
/-- and its lane. -/
abbrev laneOf (n : Fin 20000) : Fin 128 := ⟨n.val % 128, by omega⟩

/-- A position of the tile is a candidate's or one of the padding. -/
theorem cell (r : Fin 160) (l : Fin 128) : (∃ n : Fin 20000, r = rowOf n ∧ l = laneOf n) ∨ 20000 ≤ 128 * r.val + l.val := by
  by_cases h : 128 * r.val + l.val < 20000
  · refine .inl ⟨⟨128 * r.val + l.val, h⟩, Fin.ext ?_, Fin.ext ?_⟩
    · show r.val = (128 * r.val + l.val) / 128
      omega
    · show l.val = (128 * r.val + l.val) % 128
      omega
  · exact .inr (by omega)

theorem cell_val (n : Fin 20000) : 128 * (rowOf n).val + (laneOf n).val = n.val := by
  show 128 * (n.val / 128) + n.val % 128 = n.val
  omega

/-- Class `s` of a tile holds the row of scores `p`, and the padding is out of play. -/
structure Agree (kp : S16x160x128.Idx → EReal) (s : Fin 16) (p : Fin 20000 → EReal) : Prop where
  at' : ∀ n, kp (ix3 s (rowOf n) (laneOf n)) = p n
  pad : ∀ (r : Fin 160) (l : Fin 128), 20000 ≤ 128 * r.val + l.val → kp (ix3 s r l) = Sel.low

/-- A plane holds one number per candidate. -/
abbrev Plane (v : S160x128.Idx → EReal) (f : Fin 20000 → EReal) : Prop := ∀ n, v (ix2 (rowOf n) (laneOf n)) = f n

variable {kp : S16x160x128.Idx → EReal} {s : Fin 16} {p : Fin 20000 → EReal} {i : Fin 20000}

/-- No score of the tile exceeds the first largest. -/
theorem Agree.le (h : Agree kp s p) (hi : Sel.First p i) (hl : ∀ n, Sel.low ≤ p n) (r : Fin 160) (l : Fin 128) : kp (ix3 s r l) ≤ p i := by
  rcases cell r l with ⟨n, rfl, rfl⟩ | hp
  · rw [h.at']; exact hi.top n
  · rw [h.pad r l hp]; exact hl i

theorem best_at (h : Agree kp s p) (hi : Sel.First p i) (hl : ∀ n, Sel.low ≤ p n) :
    k1_pay11 (F := Ideal) kp (ix3 s 0 0) = p i := by
  pointwise [k1_pay11]
  rw [show Ideal.ofBits .f32 4286578688#32 = ⊥ by simp [Ideal.ofBits, Ideal.ieee]]
  exact le_antisymm ((Finset.fold_max_le _).mpr ⟨bot_le, fun x _ => h.le hi hl x.1 x.2⟩)
    ((Finset.le_fold_max _).mpr (.inr ⟨(rowOf i, laneOf i), Finset.mem_univ _, (h.at' i).ge⟩))

theorem minsi_toInt (a b : BitVec 32) : (IntOp.minsi a b).toInt = min a.toInt b.toInt := by
  unfold IntOp.minsi
  by_cases h : a.slt b = true
  · have h' : a.toInt < b.toInt := by simpa [BitVec.slt] using h
    rw [if_pos h, min_eq_left h'.le]
  · have h' : b.toInt ≤ a.toInt := by simpa [BitVec.slt] using h
    rw [if_neg h, min_eq_right h']

/-- A fold of signed minima that attains a lower bound is it. -/
theorem fold_minsi {ι : Type} [Fintype ι] (f : ι → BitVec 32) (w : BitVec 32) (hw : w.toInt ≤ 2147483647) (a : ι) (ha : f a = w)
    (hf : ∀ x, w.toInt ≤ (f x).toInt) : Finset.fold IntOp.minsi 2147483647#32 f Finset.univ = w := by
  apply BitVec.eq_of_toInt_eq
  rw [← Finset.fold_hom (op' := min) (m := BitVec.toInt) minsi_toInt]
  refine le_antisymm ((Finset.fold_min_le _).mpr (.inr ⟨a, Finset.mem_univ _, by rw [ha]⟩)) ((Finset.le_fold_min _).mpr ⟨?_, fun x _ => hf x⟩)
  simpa using hw

theorem num_at (r : Fin 160) (l : Fin 128) : k1_pay7 (ix2 r l) = BitVec.ofNat 32 (128 * r.val + l.val) := by
  pointwise [k1_pay7]
  show BitVec.ofNat 32 r.val * BitVec.ofNat 32 128 + BitVec.ofNat 32 l.val = _
  rw [← BitVec.ofNat_mul, ← BitVec.ofNat_add, Nat.mul_comm]

theorem toInt_word (n : ℕ) (h : n < 2 ^ 31) : (BitVec.ofNat 32 n).toInt = n := by
  rw [BitVec.toInt_eq_toNat_cond, BitVec.toNat_ofNat, Nat.mod_eq_of_lt (by omega), if_pos (by omega)]

theorem mask_at (h : Agree kp s p) (hi : Sel.First p i) (hl : ∀ n, Sel.low ≤ p n) (r : Fin 160) (l : Fin 128) :
    k1_pay12 (F := Ideal) k1_pay7 kp (ix3 s r l) = BitVec.ofBool (decide (128 * r.val + l.val = i.val)) := by
  have hb := best_at h hi hl
  pointwise [k1_pay12]
  rw [hb]
  have hm : Finset.fold IntOp.minsi 2147483647#32
      (fun x : Fin 160 × Fin 128 => if kp (ix3 s x.1 x.2) = p i then k1_pay7 (ix2 x.1 x.2) else 1073741824#32) Finset.univ = BitVec.ofNat 32 i.val := by
    have hi' := i.isLt
    refine fold_minsi _ _ (by rw [toInt_word _ (by omega)]; omega) (rowOf i, laneOf i) ?_ ?_
    · rw [if_pos (h.at' i), num_at, cell_val]
    · intro x
      rw [toInt_word _ (by omega)]
      have h1 := x.1.isLt
      have h2 := x.2.isLt
      split
      · next hx =>
        rw [num_at, toInt_word _ (by omega)]
        rcases cell x.1 x.2 with ⟨n, e1, e2⟩ | hp
        · rw [e1, e2, cell_val]
          rw [e1, e2, h.at'] at hx
          exact_mod_cast hi.first n hx
        · omega
      · rw [show (1073741824#32).toInt = 1073741824 by decide]
        omega
  rw [hm, num_at]
  have hi' := i.isLt
  have hr := r.isLt
  have hl' := l.isLt
  show BitVec.ofBool (_ == _) = _
  refine congrArg BitVec.ofBool ?_
  by_cases e : 128 * r.val + l.val = i.val
  · rw [e, decide_eq_true rfl, beq_self_eq_true]
  · rw [decide_eq_false e, beq_eq_false_iff_ne]
    intro e'
    have e' := congrArg BitVec.toNat e'
    simp only [BitVec.toNat_ofNat] at e'
    omega

/-- The indicator of the position, as a number. -/
theorem ind_at (h : Agree kp s p) (hi : Sel.First p i) (hl : ∀ n, Sel.low ≤ p n) (r : Fin 160) (l : Fin 128) :
    k1_pay13 (F := Ideal) k1_pay7 kp (ix3 s r l) = if 128 * r.val + l.val = i.val then 1 else 0 := by
  have hm := mask_at h hi hl r l
  pointwise [k1_pay13]
  rw [hm]
  show (((BitVec.setWidth 32 (BitVec.ofBool (decide (128 * r.val + l.val = i.val)))).toInt : ℝ) : EReal) = _
  by_cases e : 128 * r.val + l.val = i.val
  · rw [if_pos e, decide_eq_true e, show (BitVec.setWidth 32 (BitVec.ofBool true)).toInt = 1 by decide]
    simp
  · rw [if_neg e, decide_eq_false e, show (BitVec.setWidth 32 (BitVec.ofBool false)).toInt = 0 by decide]
    simp

/-- A plane's number at the position taken, as the sum the kernel forms. -/
theorem sum_ind (v : S160x128.Idx → EReal) : (∑ x : Fin 160, ∑ y : Fin 128, v (ix2 x y) * (if 128 * x.val + y.val = i.val then (1 : EReal) else 0))
    = v (ix2 (rowOf i) (laneOf i)) := by
  have hi := i.isLt
  rw [Finset.sum_eq_single (rowOf i), Finset.sum_eq_single (laneOf i)]
  · rw [if_pos (cell_val i), mul_one]
  · intro y _ hy
    rw [if_neg, mul_zero]
    intro e
    refine hy (Fin.ext ?_)
    have := y.isLt
    show y.val = i.val % 128
    replace e : 128 * (i.val / 128) + y.val = i.val := e
    omega
  · exact fun hn => absurd (Finset.mem_univ _) hn
  · intro x _ hx
    refine Finset.sum_eq_zero fun y _ => ?_
    rw [if_neg, mul_zero]
    intro e
    refine hx (Fin.ext ?_)
    have := y.isLt
    show x.val = i.val / 128
    omega
  · exact fun hn => absurd (Finset.mem_univ _) hn

/-- The four corners of the candidate taken. -/
theorem sum_x0 (h : Agree kp s p) (hi : Sel.First p i) (hl : ∀ n, Sel.low ≤ p n) (v : S160x128.Idx → EReal) :
    k1_pay14 (F := Ideal) v k1_pay7 kp (ix3 s 0 0) = v (ix2 (rowOf i) (laneOf i)) := by
  have hb := ind_at h hi hl
  pointwise [k1_pay14]
  simp only [hb]
  exact sum_ind v

theorem sum_y0 (h : Agree kp s p) (hi : Sel.First p i) (hl : ∀ n, Sel.low ≤ p n) (v : S160x128.Idx → EReal) :
    k1_pay15 (F := Ideal) v k1_pay7 kp (ix3 s 0 0) = v (ix2 (rowOf i) (laneOf i)) := by
  have hb := ind_at h hi hl
  pointwise [k1_pay15]
  simp only [hb]
  exact sum_ind v

theorem sum_x1 (h : Agree kp s p) (hi : Sel.First p i) (hl : ∀ n, Sel.low ≤ p n) (v : S160x128.Idx → EReal) :
    k1_pay16 (F := Ideal) v k1_pay7 kp (ix3 s 0 0) = v (ix2 (rowOf i) (laneOf i)) := by
  have hb := ind_at h hi hl
  pointwise [k1_pay16]
  simp only [hb]
  exact sum_ind v

theorem sum_y1 (h : Agree kp s p) (hi : Sel.First p i) (hl : ∀ n, Sel.low ≤ p n) (v : S160x128.Idx → EReal) :
    k1_pay17 (F := Ideal) v k1_pay7 kp (ix3 s 0 0) = v (ix2 (rowOf i) (laneOf i)) := by
  have hb := ind_at h hi hl
  pointwise [k1_pay17]
  simp only [hb]
  exact sum_ind v

end Cert.Proof.K

end
-- ==== Proof.KTrip.lean ====
/-
  One trip of the suppression kernel, as values: the scores it carries on and the two rows it writes.
-/
module

public import proofs.«01_k».proof.Proof.KPick

@[expose] public section

noncomputable section

namespace Cert.Proof.K

open Cert.KernelIdeal Cert.KernelIdeal.Gen
open Idealize.ShloMosaic Idealize.ShloMosaic.Pointwise

section values

variable {F : FTy → Type} [FloatOps F]

/-- The scores carried on from `acc`, over the planes of corners and of areas; -/
def tripNext (X0 Y0 X1 Y1 A : FVec F S160x128 .f32) (acc : FVec F S16x160x128 .f32) : FVec F S16x160x128 .f32 :=
  k1_pay10 acc (k1_pay12 k1_pay7 acc) (k1_pay22 Y0 Y1 A (k1_pay15 Y0 k1_pay7 acc) (k1_pay17 Y1 k1_pay7 acc)
    (k1_pay18 X0 Y0 X1 Y1 k1_pay7 acc) (k1_pay19 X1 k1_pay7 acc) (k1_pay20 X0 k1_pay7 acc) (k1_pay21 X0))

/-- the row of boxes written; -/
def tripBox (X0 Y0 X1 Y1 : FVec F S160x128 .f32) (v22 : IVec S16x1x128 32) (acc : FVec F S16x160x128 .f32) : FVec F S16x1x128 .f32 :=
  k1_pay8 (k1_pay25 (k1_pay11 acc) (k1_pay14 X0 k1_pay7 acc)) (k1_pay26 (k1_pay11 acc) (k1_pay15 Y0 k1_pay7 acc))
    (k1_pay27 (k1_pay11 acc) (k1_pay16 X1 k1_pay7 acc)) (k1_pay28 v22) (k1_pay29 v22) (k1_pay30 v22) (k1_pay31 v22)
    (Scalar.ofBits .f32 0x00000000#32) (k1_pay32 (k1_pay11 acc) (k1_pay17 Y1 k1_pay7 acc))

/-- and the row of scores written. -/
def tripScore (acc : FVec F S16x160x128 .f32) : FVec F S16x1x8 .f32 := k1_pay9 (k1_pay24 (k1_pay11 acc))

end values

variable {kp : S16x160x128.Idx → EReal} {s : Fin 16} {p : Fin 20000 → EReal} {i : Fin 20000}
variable {X0 Y0 X1 Y1 A : S160x128.Idx → EReal} {b : Fin 20000 → Sel.Box}

/-- The five planes hold the candidates' corners and areas. -/
structure Planes (X0 Y0 X1 Y1 A : S160x128.Idx → EReal) (b : Fin 20000 → Sel.Box) : Prop where
  x0 : Plane X0 fun n => b n 0
  y0 : Plane Y0 fun n => b n 1
  x1 : Plane X1 fun n => b n 2
  y1 : Plane Y1 fun n => b n 3
  a : Plane A fun n => Sel.area (b n)

/-- The area of the candidate taken. -/
theorem area_at (h : Agree kp s p) (hi : Sel.First p i) (hl : ∀ n, Sel.low ≤ p n) (hb : Planes X0 Y0 X1 Y1 A b) :
    k1_pay18 (F := Ideal) X0 Y0 X1 Y1 k1_pay7 kp (ix3 s 0 0) = Sel.area (b i) := by
  pointwise [k1_pay18]
  rw [sum_x0 h hi hl, sum_y0 h hi hl, sum_x1 h hi hl, sum_y1 h hi hl, hb.x0, hb.y0, hb.x1, hb.y1]
  rfl

/-- A choice between two bits, as a condition. -/
theorem select_or (P Q : Prop) [Decidable P] [Decidable Q] (x y : EReal) :
    Scalar.select (IntOp.ori (BitVec.ofBool (decide P)) (BitVec.ofBool (decide Q))) x y = if P ∨ Q then x else y := by
  by_cases hp : P <;> by_cases hq : Q <;> simp [hp, hq, Scalar.select, IntOp.ori]

theorem next_agree (h : Agree kp s p) (hi : Sel.First p i) (hl : ∀ n, Sel.low ≤ p n) (hb : Planes X0 Y0 X1 Y1 A b) :
    Agree (tripNext (F := Ideal) X0 Y0 X1 Y1 A kp) s (Sel.next p b i) := by
  have key : ∀ r l, tripNext (F := Ideal) X0 Y0 X1 Y1 A kp (ix3 s r l) =
      if Sel.cap < Ideal.div (max (min (b i 2) (X1 (ix2 r l)) - max (b i 0) (X0 (ix2 r l))) 0 * max (min (b i 3) (Y1 (ix2 r l)) - max (b i 1) (Y0 (ix2 r l))) 0)
        (Sel.area (b i) + A (ix2 r l) - (max (min (b i 2) (X1 (ix2 r l)) - max (b i 0) (X0 (ix2 r l))) 0 * max (min (b i 3) (Y1 (ix2 r l)) - max (b i 1) (Y0 (ix2 r l))) 0)
          + Ideal.ofBits .f32 0x3089705F#32) ∨ 128 * r.val + l.val = i.val then Sel.low else kp (ix3 s r l) := by
    intro r l
    have hm := mask_at h hi hl r l
    have ha := area_at h hi hl hb
    have e0 := sum_x0 h hi hl X0
    have e1 := sum_y0 h hi hl Y0
    have e2 := sum_x1 h hi hl X1
    have e3 := sum_y1 h hi hl Y1
    rw [hb.x0] at e0
    rw [hb.y0] at e1
    rw [hb.x1] at e2
    rw [hb.y1] at e3
    pointwise [tripNext, k1_pay10, k1_pay19, k1_pay20, k1_pay21, k1_pay22]
    rw [hm, ha, e0, e1, e2, e3]
    exact select_or _ _ _ _
  refine ⟨fun n => ?_, fun r l hp => ?_⟩
  · rw [key, cell_val, hb.x0, hb.y0, hb.x1, hb.y1, hb.a, h.at']
    unfold Sel.next Sel.iou Sel.meet
    simp only [Fin.ext_iff]
  · rw [key, h.pad r l hp, ite_self]

/-- A row of boxes written, lane by lane, -/
theorem box_row (h : Agree kp s p) (hi : Sel.First p i) (hl : ∀ n, Sel.low ≤ p n) (hb : Planes X0 Y0 X1 Y1 A b) (d : Fin 4) :
    tripBox (F := Ideal) X0 Y0 X1 Y1 (iota .tc S16x1x128 32 [2] iota_S16x1x128_d2_w32) kp (ix3 s 0 ⟨d.val, by omega⟩) = Sel.shown (p i) (b i d) := by
  have hB := best_at h hi hl
  have e0 := sum_x0 h hi hl X0
  have e1 := sum_y0 h hi hl Y0
  have e2 := sum_x1 h hi hl X1
  have e3 := sum_y1 h hi hl Y1
  rw [hb.x0] at e0
  rw [hb.y0] at e1
  rw [hb.x1] at e2
  rw [hb.y1] at e3
  fin_cases d
  · pointwise [tripBox, k1_pay8, k1_pay25, k1_pay26, k1_pay27, k1_pay28, k1_pay29, k1_pay30, k1_pay31, k1_pay32, k1_pay23]
    rw [hB]
    rw [e0]; rfl
  · pointwise [tripBox, k1_pay8, k1_pay25, k1_pay26, k1_pay27, k1_pay28, k1_pay29, k1_pay30, k1_pay31, k1_pay32, k1_pay23]
    rw [hB, e1]; rfl
  · pointwise [tripBox, k1_pay8, k1_pay25, k1_pay26, k1_pay27, k1_pay28, k1_pay29, k1_pay30, k1_pay31, k1_pay32, k1_pay23]
    rw [hB, e2]; rfl
  · pointwise [tripBox, k1_pay8, k1_pay25, k1_pay26, k1_pay27, k1_pay28, k1_pay29, k1_pay30, k1_pay31, k1_pay32, k1_pay23]
    rw [hB, e3]; rfl

/-- and a row of scores written. -/
theorem score_row (h : Agree kp s p) (hi : Sel.First p i) (hl : ∀ n, Sel.low ≤ p n) :
    tripScore (F := Ideal) kp (ix3 s 0 0) = Sel.shown (p i) (p i) := by
  have hB := best_at h hi hl
  pointwise [tripScore, k1_pay9, k1_pay24, k1_pay23]
  rw [hB]
  rfl

end Cert.Proof.K

end
-- ==== Proof.KLoop.lean ====
/-
  The hundred trips of the suppression kernel: what is carried, and what is read of the rows written.
-/
module
public import proofs.«01_k».proof.Proof.Nms
public import proofs.«01_k».proof.Proof.KTrip
public import Idealize.ShloMosaic.Lib.WritesUnit
@[expose] public section
noncomputable section
namespace Cert.Proof.K
open Cert.KernelIdeal Cert.KernelIdeal.Gen
open Idealize.ShloMosaic Idealize.ShloMosaic.Pointwise
variable {F : FTy → Type} [FloatOps F]

theorem trip_next (𝒱 : Variants) (c : Dev nD) (bd i a1 h1 a2 h2 a3 h3 a4 h4 a5 h5 a6 h6 a7 h7 a8 h8) (v7 v9 v11 v13 v15 : Vec F S160x128 .f32) (v22 k acc) :
    (trip_k1_t1 (F := F) 𝒱 c bd i a1 h1 a2 h2 a3 h3 a4 h4 a5 h5 a6 h6 a7 h7 a8 h8 v7 v9 v11 v13 v15 v22 k).1 acc
      = tripNext (k1_pay2 v7) (k1_pay3 v9) (k1_pay4 v11) (k1_pay5 v13) (k1_pay6 v15) acc := by
  unfold trip_k1_t1
  rfl

theorem trip_box (𝒱 : Variants) (c : Dev nD) (bd i a1 h1 a2 h2 a3 h3 a4 h4 a5 h5 a6 h6 a7 h7 a8 h8) (v7 v9 v11 v13 v15 : Vec F S160x128 .f32) (v22 k acc) :
    (trip_k1_t1 (F := F) 𝒱 c bd i a1 h1 a2 h2 a3 h3 a4 h4 a5 h5 a6 h6 a7 h7 a8 h8 v7 v9 v11 v13 v15 v22 k).2.1 acc
      = [⟨Rect.unit (s := S16x104x128) (k1_off1 k) S16x1x128.size (k1_off1_inb k), tripBox (k1_pay2 v7) (k1_pay3 v9) (k1_pay4 v11) (k1_pay5 v13) v22 acc⟩] := by
  unfold trip_k1_t1
  rfl

theorem trip_score (𝒱 : Variants) (c : Dev nD) (bd i a1 h1 a2 h2 a3 h3 a4 h4 a5 h5 a6 h6 a7 h7 a8 h8) (v7 v9 v11 v13 v15 : Vec F S160x128 .f32) (v22 k acc) :
    (trip_k1_t1 (F := F) 𝒱 c bd i a1 h1 a2 h2 a3 h3 a4 h4 a5 h5 a6 h6 a7 h7 a8 h8 v7 v9 v11 v13 v15 v22 k).2.2.1 acc
      = [⟨Rect.unit (s := S16x104x8) (k1_off2 k) S16x1x8.size (k1_off2_inb k), tripScore acc⟩] := by
  unfold trip_k1_t1
  rfl

variable (c : Dev nD) (i : grid1.Coords)
    (M1 : Memref sig .tc .vmem S16x160x128 .f32) (h1 : M1.IsWhole)
    (M2 : Memref sig .tc .vmem S160x128 .f32) (h2 : M2.IsWhole) (M3 : Memref sig .tc .vmem S160x128 .f32) (h3 : M3.IsWhole)
    (M4 : Memref sig .tc .vmem S160x128 .f32) (h4 : M4.IsWhole) (M5 : Memref sig .tc .vmem S160x128 .f32) (h5 : M5.IsWhole)
    (M6 : Memref sig .tc .vmem S160x128 .f32) (h6 : M6.IsWhole) (M7 : Memref sig .tc .vmem S16x104x128 .f32) (h7 : M7.IsWhole)
    (M8 : Memref sig .tc .vmem S16x104x8 .f32) (h8 : M8.IsWhole)
    (f1 : Cts (F := F) c M1) (f2 : Cts (F := F) c M2) (f3 : Cts (F := F) c M3)
    (f4 : Cts (F := F) c M4) (f5 : Cts (F := F) c M5) (f6 : Cts (F := F) c M6)

/-- The loop takes a hundred trips. -/
theorem trips_eq : k1_t1_loop.trips = 100 := by decide

/-- The rows newly written over by one more row of boxes: that row, or what was there. -/
theorem row_written {c : Dev nD} (M : Memref sig .tc .vmem S16x104x128 .f32) (f : Cts (F := Ideal) c M)
    (q : Fin k1_t1_loop.trips) (w : FVec Ideal S16x1x128 .f32) (L) (s : Fin 16) (j : Fin 104) (d : Fin 128) :
    M.view.read (Elt Ideal) (M.view.writes (Elt Ideal) f (⟨Rect.unit (s := S16x104x128) (k1_off1 q) S16x1x128.size (k1_off1_inb q), w⟩ :: L)) (ix3 s j d)
      = if j.val = q.val then w (ix3 s 0 d) else M.view.read (Elt Ideal) (M.view.writes (Elt Ideal) f L) (ix3 s j d) := by
  by_cases h : j.val = q.val
  · rw [if_pos h]
    refine View.read_writes_cons_unit_of_mem M.view f (k1_off1_inb q) w L (ix3 s j d : S16x104x128.Idx) (ix3 s 0 d : S16x1x128.Idx) (k1_off1_eq q) ?_
    intro a
    fin_cases a
    · show s.val = 0 + s.val
      omega
    · show j.val = q.val + 0
      omega
    · show d.val = 0 + d.val
      omega
  · rw [if_neg h]
    refine View.read_writes_cons_unit_of_not_mem M.view f (k1_off1_inb q) w L (ix3 s j d : S16x104x128.Idx) (k1_off1_eq q) (1 : Fin 3) ?_
    show j.val < q.val ∨ q.val + 1 ≤ j.val
    omega

/-- The same of the rows of scores. -/
theorem score_written {c : Dev nD} (M : Memref sig .tc .vmem S16x104x8 .f32) (f : Cts (F := Ideal) c M)
    (q : Fin k1_t1_loop.trips) (w : FVec Ideal S16x1x8 .f32) (L) (s : Fin 16) (j : Fin 104) (d : Fin 8) :
    M.view.read (Elt Ideal) (M.view.writes (Elt Ideal) f (⟨Rect.unit (s := S16x104x8) (k1_off2 q) S16x1x8.size (k1_off2_inb q), w⟩ :: L)) (ix3 s j d)
      = if j.val = q.val then w (ix3 s 0 d) else M.view.read (Elt Ideal) (M.view.writes (Elt Ideal) f L) (ix3 s j d) := by
  by_cases h : j.val = q.val
  · rw [if_pos h]
    refine View.read_writes_cons_unit_of_mem M.view f (k1_off2_inb q) w L (ix3 s j d : S16x104x8.Idx) (ix3 s 0 d : S16x1x8.Idx) (k1_off2_eq q) ?_
    intro a
    fin_cases a
    · show s.val = 0 + s.val
      omega
    · show j.val = q.val + 0
      omega
    · show d.val = 0 + d.val
      omega
  · rw [if_neg h]
    refine View.read_writes_cons_unit_of_not_mem M.view f (k1_off2_inb q) w L (ix3 s j d : S16x104x8.Idx) (k1_off2_eq q) (1 : Fin 3) ?_
    show j.val < q.val ∨ q.val + 1 ≤ j.val
    omega

section reads

variable (𝒱 : Variants) (c : Dev nD) (bd : Option 𝒱.V) (i : grid1.Coords)
    (M1 : Memref sig .tc .vmem S16x160x128 .f32) (h1 : M1.IsWhole)
    (M2 : Memref sig .tc .vmem S160x128 .f32) (h2 : M2.IsWhole) (M3 : Memref sig .tc .vmem S160x128 .f32) (h3 : M3.IsWhole)
    (M4 : Memref sig .tc .vmem S160x128 .f32) (h4 : M4.IsWhole) (M5 : Memref sig .tc .vmem S160x128 .f32) (h5 : M5.IsWhole)
    (M6 : Memref sig .tc .vmem S160x128 .f32) (h6 : M6.IsWhole) (M7 : Memref sig .tc .vmem S16x104x128 .f32) (h7 : M7.IsWhole)
    (M8 : Memref sig .tc .vmem S16x104x8 .f32) (h8 : M8.IsWhole)
    (v7 v9 v11 v13 v15 : Vec Ideal S160x128 .f32) (init : FVec Ideal S16x160x128 .f32)

/-- The lane numbers the box row is written by. -/
abbrev lanes : IVec S16x1x128 32 := iota .tc S16x1x128 32 [2] iota_S16x1x128_d2_w32

/-- The state before trip `k`. -/
abbrev stK (k : ℕ) := st_k1_t1 (F := Ideal) 𝒱 c bd i M1 h1 M2 h2 M3 h3 M4 h4 M5 h5 M6 h6 M7 h7 M8 h8 v7 v9 v11 v13 v15 lanes init k

variable {b : Fin 20000 → Sel.Box} (hb : Planes (k1_pay2 v7) (k1_pay3 v9) (k1_pay4 v11) (k1_pay5 v13) (k1_pay6 v15) b)
  {s : Fin 16} {x : Fin 20000 → EReal} (h0 : Agree init s (Sel.row x b 0))

include hb h0

/-- The scores carried before trip `k` are those after `k` candidates are taken, and the rows written by then read as the
    candidates taken. -/
theorem loop_reads : ∀ k, k ≤ 100 → Agree (stK 𝒱 c bd i M1 h1 M2 h2 M3 h3 M4 h4 M5 h5 M6 h6 M7 h7 M8 h8 v7 v9 v11 v13 v15 init k).1 s (Sel.row x b k)
    ∧ ∀ j : Fin 104, j.val < k →
      (∀ (f : Cts (F := Ideal) c M7) (d : Fin 4), M7.view.read (Elt Ideal) (M7.view.writes (Elt Ideal) f
          (stK 𝒱 c bd i M1 h1 M2 h2 M3 h3 M4 h4 M5 h5 M6 h6 M7 h7 M8 h8 v7 v9 v11 v13 v15 init k).2.1) (ix3 s j ⟨d.val, by omega⟩) = Sel.outBox x b j.val d)
      ∧ (∀ (f : Cts (F := Ideal) c M8), M8.view.read (Elt Ideal) (M8.view.writes (Elt Ideal) f
          (stK 𝒱 c bd i M1 h1 M2 h2 M3 h3 M4 h4 M5 h5 M6 h6 M7 h7 M8 h8 v7 v9 v11 v13 v15 init k).2.2) (ix3 s j 0) = Sel.outScore x b j.val)
  | 0, _ => ⟨h0, fun _ h => absurd h (Nat.not_lt_zero _)⟩
  | k + 1, hk => by
    obtain ⟨ha, hr⟩ := loop_reads k (by omega)
    obtain ⟨q, rfl⟩ : ∃ q : Fin k1_t1_loop.trips, q.val = k := ⟨⟨k, by rw [trips_eq]; omega⟩, rfl⟩
    have e := st_k1_t1_succ (F := Ideal) 𝒱 c bd i M1 h1 M2 h2 M3 h3 M4 h4 M5 h5 M6 h6 M7 h7 M8 h8 v7 v9 v11 v13 v15 lanes init q
    simp only [trip_next, trip_box, trip_score] at e
    unfold stK at ha hr ⊢
    rw [e]
    generalize st_k1_t1 (F := Ideal) 𝒱 c bd i M1 h1 M2 h2 M3 h3 M4 h4 M5 h5 M6 h6 M7 h7 M8 h8 v7 v9 v11 v13 v15 lanes init q.val = S at ha hr ⊢
    have hp := Sel.pick_first (Sel.row x b q.val)
    have hl := Sel.low_le_row x b q.val
    refine ⟨next_agree ha hp hl hb, fun j hj => ⟨fun f d => ?_, fun f => ?_⟩⟩
    · refine (row_written M7 f q _ S.2.1 s j ⟨d.val, _⟩).trans ?_
      split
      · next h => rw [box_row ha hp hl hb d, h]; rfl
      · next h => exact (hr j (by omega)).1 f d
    · refine (score_written M8 f q _ S.2.2 s j 0).trans ?_
      split
      · next h => rw [score_row ha hp hl, h]; rfl
      · next h => exact (hr j (by omega)).2 f

end reads

end Cert.Proof.K

end
-- ==== Proof.KBlock.lean ====
/-
  The suppression kernel on a block: what the rows of its two results read as, from what its staged inputs hold.
-/
module

public import proofs.«01_k».proof.Proof.KLoop
public import Idealize.ShloMosaic.Lib.VecWindow

@[expose] public section

noncomputable section

namespace Cert.Proof.K

open Cert.KernelIdeal Cert.KernelIdeal.Gen
open Idealize.ShloMosaic Idealize.ShloMosaic.Pointwise
open Idealize.ShloMosaic.TcCoe Idealize.ShloMosaic.Tactic
open Idealize.ShloMosaic.Pipeline (Dat RDat)

/-- Slice `s` of a block of logits holds a class's logits, and the filler in the cells past the candidates. -/
structure Raw (v : S16x160x128.Idx → EReal) (s : Fin 16) (x : Fin 20000 → EReal) : Prop where
  at' : ∀ n, v (ix3 s (rowOf n) (laneOf n)) = x n
  pad : ∀ (r : Fin 160) (l : Fin 128), 20000 ≤ 128 * r.val + l.val → v (ix3 s r l) = Ideal.ofBits .f32 0xCE6E6B28#32

/-- The first scores: the logistic of the logits, the low ones dropped. -/
theorem first_at (v : S16x160x128.Idx → EReal) (s : Fin 16) (r : Fin 160) (l : Fin 128) :
    k1_pay1 (F := Ideal) v (ix3 s r l) = Sel.start (v (ix3 s r l)) := by
  pointwise [k1_pay1]
  rfl

theorem Raw.agree {v : S16x160x128.Idx → EReal} {s : Fin 16} {x : Fin 20000 → EReal} (h : Raw v s x) (b : Fin 20000 → Sel.Box) :
    Agree (k1_pay1 (F := Ideal) v) s (Sel.row x b 0) where
  at' n := by rw [first_at, h.at' n]; rfl
  pad r l hrl := by rw [first_at, h.pad r l hrl, Sel.start_pad]

variable (V : (c : Dev nD) → (b : Ref sig .tc) → Buf (Elt Ideal) ((c : Thread nD τ).loc b)) (c : Dev nD) (t : Fin cfg1.N)

/-- The blocks the five planes are fetched in hold the corners and the areas of the candidates. -/
abbrev Boxes (b : Fin 20000 → Sel.Box) : Prop :=
  Planes (nblk V c 1 t) (nblk V c 2 t) (nblk V c 3 t) (nblk V c 4 t) (nblk V c 5 t) b

variable {V c t} {b : Fin 20000 → Sel.Box} (hb : Boxes V c t b) {s : Fin 16} {x : Fin 20000 → EReal} (hx : Raw (nblk V c 0 t) s x)

include hb hx

/-- The rows a run of the body on staged inputs reading as the blocks writes. -/
theorem suppressed_rows {f0 : Cts (F := Ideal) c (st1_0 t)} {f1 : Cts (F := Ideal) c (st1_1 t)} {f2 : Cts (F := Ideal) c (st1_2 t)}
    {f3 : Cts (F := Ideal) c (st1_3 t)} {f4 : Cts (F := Ideal) c (st1_4 t)} {f5 : Cts (F := Ideal) c (st1_5 t)}
    (h : Reads V c t f0 f1 f2 f3 f4 f5) (j : Fin 100) :
    (∀ (g : Cts (F := Ideal) c (st1_6 t)) (d : Fin 4), (st1_6 t).view.read (Elt Ideal)
        ((st1_6 t).view.writes (Elt Ideal) g (suppressed c t f0 f1 f2 f3 f4 f5).1) (ix3 s ⟨j.val, by omega⟩ ⟨d.val, by omega⟩) = Sel.outBox x b j.val d)
      ∧ (∀ (g : Cts (F := Ideal) c (st1_7 t)), (st1_7 t).view.read (Elt Ideal)
        ((st1_7 t).view.writes (Elt Ideal) g (suppressed c t f0 f1 f2 f3 f4 f5).2.1) (ix3 s ⟨j.val, by omega⟩ 0) = Sel.outScore x b j.val) := by
  unfold suppressed nmsRun
  dsimp only
  have e0 : View.readAt (Elt Ideal) (st1_0 t).view (Rect.unit ![0, 0, 0] ![16, 160, 128] inb_S16x160x128_S16x160x128_0_0_0).toLoadRect f0 = nblk V c 0 t :=
    (View.readAt_full (st1_0 t).view f0 _).trans h.r0
  have e1 : View.readAt (Elt Ideal) (st1_1 t).view (Rect.unit ![0, 0] ![160, 128] inb_S160x128_S160x128_0_0).toLoadRect f1 = nblk V c 1 t :=
    (View.readAt_full (st1_1 t).view f1 _).trans h.r1
  have e2 : View.readAt (Elt Ideal) (st1_2 t).view (Rect.unit ![0, 0] ![160, 128] inb_S160x128_S160x128_0_0).toLoadRect f2 = nblk V c 2 t :=
    (View.readAt_full (st1_2 t).view f2 _).trans h.r2
  have e3 : View.readAt (Elt Ideal) (st1_3 t).view (Rect.unit ![0, 0] ![160, 128] inb_S160x128_S160x128_0_0).toLoadRect f3 = nblk V c 3 t :=
    (View.readAt_full (st1_3 t).view f3 _).trans h.r3
  have e4 : View.readAt (Elt Ideal) (st1_4 t).view (Rect.unit ![0, 0] ![160, 128] inb_S160x128_S160x128_0_0).toLoadRect f4 = nblk V c 4 t :=
    (View.readAt_full (st1_4 t).view f4 _).trans h.r4
  have e5 : View.readAt (Elt Ideal) (st1_5 t).view (Rect.unit ![0, 0] ![160, 128] inb_S160x128_S160x128_0_0).toLoadRect f5 = nblk V c 5 t :=
    (View.readAt_full (st1_5 t).view f5 _).trans h.r5
  rw [e0, e1, e2, e3, e4, e5, show Scf.trips 0#32 (Scalar.addi 0#32 100#32) 1#32 = 100 by decide]
  have hp : Planes (k1_pay2 (F := Ideal) (nblk V c 1 t)) (k1_pay3 (nblk V c 2 t)) (k1_pay4 (nblk V c 3 t)) (k1_pay5 (nblk V c 4 t))
      (k1_pay6 (nblk V c 5 t)) b := by
    have i2 : k1_pay2 (F := Ideal) (nblk V c 1 t) = nblk V c 1 t := shapeCast_self _ _
    have i3 : k1_pay3 (F := Ideal) (nblk V c 2 t) = nblk V c 2 t := shapeCast_self _ _
    have i4 : k1_pay4 (F := Ideal) (nblk V c 3 t) = nblk V c 3 t := shapeCast_self _ _
    have i5 : k1_pay5 (F := Ideal) (nblk V c 4 t) = nblk V c 4 t := shapeCast_self _ _
    have i6 : k1_pay6 (F := Ideal) (nblk V c 5 t) = nblk V c 5 t := shapeCast_self _ _
    rw [i2, i3, i4, i5, i6]
    exact hb
  have hr := ((loop_reads Variants.none c none (grid1.coords t) (st1_0 t) (hstage1_0 _) (st1_1 t) (hstage1_1 _) (st1_2 t) (hstage1_2 _)
    (st1_3 t) (hstage1_3 _) (st1_4 t) (hstage1_4 _) (st1_5 t) (hstage1_5 _) (st1_6 t) (hstage1_6 _) (st1_7 t) (hstage1_7 _)
    (nblk V c 1 t) (nblk V c 2 t) (nblk V c 3 t) (nblk V c 4 t) (nblk V c 5 t) (k1_pay1 (F := Ideal) (nblk V c 0 t)) hp (hx.agree b)
    100 le_rfl).2 ⟨j.val, by omega⟩ j.isLt)
  exact ⟨hr.1, hr.2⟩

/-- What the body may leave in the block of boxes, -/
theorem left_box {X : S16x104x128.Idx → EReal} (h : Left V c 6 t X) (j : Fin 100) (d : Fin 4) :
    X (ix3 s ⟨j.val, by omega⟩ ⟨d.val, by omega⟩) = Sel.outBox x b j.val d := by
  obtain ⟨f0, f1, f2, f3, f4, f5, hr, g, rfl⟩ := h
  exact (suppressed_rows hb hx hr j).1 g d

/-- and in the block of scores. -/
theorem left_score {X : S16x104x8.Idx → EReal} (h : Left V c 7 t X) (j : Fin 100) :
    X (ix3 s ⟨j.val, by omega⟩ 0) = Sel.outScore x b j.val := by
  obtain ⟨f0, f1, f2, f3, f4, f5, hr, g, rfl⟩ := h
  exact (suppressed_rows hb hx hr j).2 g

end Cert.Proof.K

end
-- ==== Proof.KArr.lean ====
/-
  The arrays of the suppression region: the blocks its five points fetch and write back, put together.
-/
module

public import proofs.«01_k».proof.Proof.KBlock
public import proofs.«01_k».proof.Proof.Run
public import Idealize.ShloMosaic.Lib.Pipeline.ArrRel
public import Idealize.ShloMosaic.Lib.Pipeline.ValueKit

@[expose] public section

noncomputable section

namespace Cert.Proof.K

open Cert.KernelIdeal Cert.KernelIdeal.Gen
open Idealize.ShloMosaic Idealize.ShloMosaic.Pointwise
open Idealize.ShloMosaic.TcCoe Idealize.ShloMosaic.Tactic
open Idealize.ShloMosaic.Pipeline (Dat RDat)

variable (V : (c : Dev nD) → (b : Ref sig .tc) → Buf (Elt Ideal) ((c : Thread nD τ).loc b)) (c : Dev nD)

theorem idx_fetch : ∀ t : Fin cfg1.N, win1_0.index t = ![t.val, 0, 0] := by decide +kernel
theorem idx_plane1 : ∀ t : Fin cfg1.N, win1_1.index t = ![0, 0] := by decide +kernel
theorem idx_plane2 : ∀ t : Fin cfg1.N, win1_2.index t = ![0, 0] := by decide +kernel
theorem idx_plane3 : ∀ t : Fin cfg1.N, win1_3.index t = ![0, 0] := by decide +kernel
theorem idx_plane4 : ∀ t : Fin cfg1.N, win1_4.index t = ![0, 0] := by decide +kernel
theorem idx_plane5 : ∀ t : Fin cfg1.N, win1_5.index t = ![0, 0] := by decide +kernel
theorem idx_box : ∀ t : Fin cfg1.N, win1_6.index t = ![t.val, 0, 0] := by decide +kernel
theorem idx_score : ∀ t : Fin cfg1.N, win1_7.index t = ![t.val, 0, 0] := by decide +kernel

/-- The block of logits at point `t` is classes `16 t …` of the array, -/
theorem fetched (t : Fin cfg1.N) (s : Fin 16) (r : Fin 160) (l : Fin 128) (k : Fin 80) (hk : k.val = 16 * t.val + s.val) :
    nblk V c 0 t (ix3 s r l) = (V c main_call0_v46 : S80x160x128.Idx → EReal) (ix3 k r l) := by
  unfold nblk
  blk_ext [idx_fetch]

/-! and the block of each plane is the plane. -/

theorem plane1 (t : Fin cfg1.N) : nblk V c 1 t = (V c main_call0_v42_0 : S160x128.Idx → EReal) := by
  funext i
  unfold nblk
  blk_ext [idx_plane1]

theorem plane2 (t : Fin cfg1.N) : nblk V c 2 t = (V c main_call0_v42_1 : S160x128.Idx → EReal) := by
  funext i
  unfold nblk
  blk_ext [idx_plane2]

theorem plane3 (t : Fin cfg1.N) : nblk V c 3 t = (V c main_call0_v42_2 : S160x128.Idx → EReal) := by
  funext i
  unfold nblk
  blk_ext [idx_plane3]

theorem plane4 (t : Fin cfg1.N) : nblk V c 4 t = (V c main_call0_v42_3 : S160x128.Idx → EReal) := by
  funext i
  unfold nblk
  blk_ext [idx_plane4]

theorem plane5 (t : Fin cfg1.N) : nblk V c 5 t = (V c main_call0_v42_4 : S160x128.Idx → EReal) := by
  funext i
  unfold nblk
  blk_ext [idx_plane5]

/-- Class `k` of the array of logits holds that class's logits, and the filler past the candidates. -/
structure Rows (v : S80x160x128.Idx → EReal) (k : Fin 80) (x : Fin 20000 → EReal) : Prop where
  at' : ∀ n, v (ix3 k (rowOf n) (laneOf n)) = x n
  pad : ∀ (r : Fin 160) (l : Fin 128), 20000 ≤ 128 * r.val + l.val → v (ix3 k r l) = Ideal.ofBits .f32 0xCE6E6B28#32

theorem Rows.raw {k : Fin 80} {x : Fin 20000 → EReal} (h : Rows (V c main_call0_v46) k x) (t : Fin cfg1.N) (s : Fin 16)
    (hk : k.val = 16 * t.val + s.val) : Raw (nblk V c 0 t) s x where
  at' n := (fetched V c t s _ _ k hk).trans (h.at' n)
  pad r l hrl := (fetched V c t s r l k hk).trans (h.pad r l hrl)

variable (m : (ℓ : Loc nD τ sig) → Buf (Elt Ideal) ℓ) {c}
variable {b : Fin 20000 → Sel.Box} {x : Fin 80 → Fin 20000 → EReal}
    (hb : Planes (W3 m c main_call0_v42_0) (W3 m c main_call0_v42_1) (W3 m c main_call0_v42_2) (W3 m c main_call0_v42_3)
      (W3 m c main_call0_v42_4) b)
    (hx : ∀ k, Rows (W3 m c main_call0_v46) k (x k))

include hb hx

/-- The boxes left in the array, -/
theorem may_box {o : Fin2 (F := Ideal) c} (h : May m c o) (k : Fin 80) (j : Fin 100) (d : Fin 4) :
    (o.1 : S80x104x128.Idx → EReal) (ix3 k ⟨j.val, by omega⟩ ⟨d.val, by omega⟩) = Sel.outBox (x k) b j.val d := by
  obtain ⟨X, hX, hA⟩ := h.1.exists_exact
  obtain ⟨af, haf⟩ : ∃ af : (w' : Fin cfg1.W) → Fin cfg1.N → (cfg1.win w').block.Idx → Elt Ideal (cfg1.win w').elt, af 6 = X :=
    ⟨Function.update (fun _ _ _ => Classical.arbitrary _) 6 X, Function.update_self ..⟩
  have e := hA af fun u _ _ => congrFun haf u
  rw [e]
  have main := ((rdatB m c).withAfter af).arrAt_forall_of_covers 6
    (fun i v => ∀ (k : Fin 80) (j : Fin 100) (d : Fin 4), (i : S80x104x128.Idx) = (ix3 k ⟨j.val, by omega⟩ ⟨d.val, by omega⟩) → (v : EReal) = Sel.outBox (x k) b j.val d)
    (by decide +kernel) (fun t hf y => ?_) ((ix3 k ⟨j.val, by omega⟩ ⟨d.val, by omega⟩) : S80x104x128.Idx)
  · exact main k j d rfl
  · intro k j d hy
    blk_simp
    blk_simp at hy
    have y0 := congrArg (fun i : S80x104x128.Idx => (i 0).val) hy
    have y1 := congrArg (fun i : S80x104x128.Idx => (i 1).val) hy
    have y2 := congrArg (fun i : S80x104x128.Idx => (i 2).val) hy
    blk_simp [idx_box] at y0 y1 y2
    have hy' : y = (ix3 (y 0) ⟨j.val, by omega⟩ ⟨d.val, by omega⟩ : S16x104x128.Idx) := by
      funext a
      fin_cases a
      · rfl
      · exact Fin.ext y1
      · exact Fin.ext y2
    show af 6 t y = _
    rw [haf]
    refine Eq.trans ?_ (left_box (V := fun c b => W3 m c b) (t := t) (s := y 0) ?_ ((hx k).raw (fun c b => W3 m c b) c t (y 0) ?_)
      ((datB m c).toRRel_leaves rfl (hX t t.isLt hf)) j d)
    · exact congrArg (X t) hy'
    · unfold Boxes
      rw [plane1, plane2, plane3, plane4, plane5]
      exact hb
    · omega

/-- and the scores. -/
theorem may_score {o : Fin2 (F := Ideal) c} (h : May m c o) (k : Fin 80) (j : Fin 100) :
    (o.2 : S80x104x8.Idx → EReal) (ix3 k ⟨j.val, by omega⟩ 0) = Sel.outScore (x k) b j.val := by
  obtain ⟨X, hX, hA⟩ := h.2.exists_exact
  obtain ⟨af, haf⟩ : ∃ af : (w' : Fin cfg1.W) → Fin cfg1.N → (cfg1.win w').block.Idx → Elt Ideal (cfg1.win w').elt, af 7 = X :=
    ⟨Function.update (fun _ _ _ => Classical.arbitrary _) 7 X, Function.update_self ..⟩
  have e := hA af fun u _ _ => congrFun haf u
  rw [e]
  have main := ((rdatB m c).withAfter af).arrAt_forall_of_covers 7
    (fun i v => ∀ (k : Fin 80) (j : Fin 100), (i : S80x104x8.Idx) = (ix3 k ⟨j.val, by omega⟩ 0) → (v : EReal) = Sel.outScore (x k) b j.val)
    (by decide +kernel) (fun t hf y => ?_) ((ix3 k ⟨j.val, by omega⟩ 0) : S80x104x8.Idx)
  · exact main k j rfl
  · intro k j hy
    blk_simp
    blk_simp at hy
    have y0 := congrArg (fun i : S80x104x8.Idx => (i 0).val) hy
    have y1 := congrArg (fun i : S80x104x8.Idx => (i 1).val) hy
    have y2 := congrArg (fun i : S80x104x8.Idx => (i 2).val) hy
    blk_simp [idx_score] at y0 y1 y2
    have hy' : y = (ix3 (y 0) ⟨j.val, by omega⟩ 0 : S16x104x8.Idx) := by
      funext a
      fin_cases a
      · rfl
      · exact Fin.ext y1
      · exact Fin.ext y2
    show af 7 t y = _
    rw [haf]
    refine Eq.trans ?_ (left_score (V := fun c b => W3 m c b) (t := t) (s := y 0) ?_ ((hx k).raw (fun c b => W3 m c b) c t (y 0) ?_)
      ((datB m c).toRRel_leaves rfl (hX t t.isLt hf)) j)
    · exact congrArg (X t) hy'
    · unfold Boxes
      rw [plane1, plane2, plane3, plane4, plane5]
      exact hb
    · omega

end Cert.Proof.K

end
-- ==== Proof.KDecode.lean ====
/-
  The decoding kernel's five results at an element, from the eight planes it reads.
-/
module

public import proofs.«01_k».proof.Proof.Decode
public import proofs.«01_k».proof.Proof.Model
public import Idealize.ShloMosaic.Lib.VecWindow
public import Idealize.ShloMosaic.Lib.Pointwise
public import Idealize.ShloMosaic.Lib.Pipeline.ValueKit

@[expose] public section

noncomputable section

namespace Cert.Proof.K

open Cert.KernelIdeal Cert.KernelIdeal.Gen
open Idealize.ShloMosaic Idealize.ShloMosaic.Pointwise
open Idealize.ShloMosaic.TcCoe Idealize.ShloMosaic.Tactic
open Idealize.ShloMosaic.Pipeline (Dat RDat)

section body

variable (c : Dev nD)
    (M0 M1 M2 M3 M4 M5 M6 M7 M8 M9 M10 M11 : Memref sig .tc .vmem S160x128 .f32)
    (f0 : Cts (F := Ideal) c M0) (f1 : Cts (F := Ideal) c M1) (f2 : Cts (F := Ideal) c M2) (f3 : Cts (F := Ideal) c M3)
    (f4 : Cts (F := Ideal) c M4) (f5 : Cts (F := Ideal) c M5) (f6 : Cts (F := Ideal) c M6) (f7 : Cts (F := Ideal) c M7)

/-- A load of a whole plane, at an element. -/
theorem load_at (M : Memref sig .tc .vmem S160x128 .f32) (f : Cts (F := Ideal) c M) (r : Fin 160) (l : Fin 128) :
    View.readAt (Elt Ideal) M.view (Rect.unit (s := S160x128) ![0, 0] ![160, 128] inb_S160x128_S160x128_0_0).toLoadRect f (ix2 r l : S160x128.Idx)
      = M.view.read (Elt Ideal) f (ix2 r l) :=
  congrFun (View.readAt_full M.view f _) (ix2 r l)

/-- A coordinate of a centre moved by an offset. -/
abbrev mid (d p e : EReal) : EReal := d * e + p
/-- Half a side. -/
abbrev half (d e : EReal) : EReal := Ideal.div (Ideal.exp d * e) (Ideal.ofBits .f32 0x40000000#32)

/-- The element of the plane a staging buffer holds. -/
abbrev at2 (M : Memref sig .tc .vmem S160x128 .f32) (f : Cts (F := Ideal) c M) (r : Fin 160) (l : Fin 128) : EReal :=
  M.view.read (Elt Ideal) f (ix2 r l)

theorem x0_at (r : Fin 160) (l : Fin 128) : decodeRun.sl.v30 (F := Ideal) c M0 M2 M4 M6 f0 f2 f4 f6 (ix2 r l)
    = mid (at2 c M0 f0 r l) (at2 c M4 f4 r l) (at2 c M6 f6 r l) - half (at2 c M2 f2 r l) (at2 c M6 f6 r l) := by
  pointwise [decodeRun.sl.v30, decodeRun.sl.v7, decodeRun.sl.v29, decodeRun.sl.v4, decodeRun.sl.v6, decodeRun.sl.v21, decodeRun.sl.v28, decodeRun.sl.v18, decodeRun.sl.v17, decodeRun.sl.v3, decodeRun.sl.v1, decodeRun.sl.cst]
  rw [load_at, load_at, load_at, load_at]

theorem y0_at (r : Fin 160) (l : Fin 128) : decodeRun.sl.v34 (F := Ideal) c M1 M3 M5 M7 f1 f3 f5 f7 (ix2 r l)
    = mid (at2 c M1 f1 r l) (at2 c M5 f5 r l) (at2 c M7 f7 r l) - half (at2 c M3 f3 r l) (at2 c M7 f7 r l) := by
  pointwise [decodeRun.sl.v34, decodeRun.sl.v15, decodeRun.sl.v33, decodeRun.sl.v12, decodeRun.sl.v14, decodeRun.sl.v27, decodeRun.sl.v28, decodeRun.sl.v24, decodeRun.sl.v23, decodeRun.sl.v11, decodeRun.sl.v9, decodeRun.sl.cst]
  rw [load_at, load_at, load_at, load_at]

theorem x1_at (r : Fin 160) (l : Fin 128) : decodeRun.sl.v38 (F := Ideal) c M0 M2 M4 M6 f0 f2 f4 f6 (ix2 r l)
    = mid (at2 c M0 f0 r l) (at2 c M4 f4 r l) (at2 c M6 f6 r l) + half (at2 c M2 f2 r l) (at2 c M6 f6 r l) := by
  pointwise [decodeRun.sl.v38, decodeRun.sl.v7, decodeRun.sl.v29, decodeRun.sl.v4, decodeRun.sl.v6, decodeRun.sl.v21, decodeRun.sl.v28, decodeRun.sl.v18, decodeRun.sl.v17, decodeRun.sl.v3, decodeRun.sl.v1, decodeRun.sl.cst]
  rw [load_at, load_at, load_at, load_at]

theorem y1_at (r : Fin 160) (l : Fin 128) : decodeRun.sl.v42 (F := Ideal) c M1 M3 M5 M7 f1 f3 f5 f7 (ix2 r l)
    = mid (at2 c M1 f1 r l) (at2 c M5 f5 r l) (at2 c M7 f7 r l) + half (at2 c M3 f3 r l) (at2 c M7 f7 r l) := by
  pointwise [decodeRun.sl.v42, decodeRun.sl.v15, decodeRun.sl.v33, decodeRun.sl.v12, decodeRun.sl.v14, decodeRun.sl.v27, decodeRun.sl.v28, decodeRun.sl.v24, decodeRun.sl.v23, decodeRun.sl.v11, decodeRun.sl.v9, decodeRun.sl.cst]
  rw [load_at, load_at, load_at, load_at]

/-- The area, of the four planes just written. -/
theorem area_read (r : Fin 160) (l : Fin 128) :
    decodeRun.sl.v58 (F := Ideal) c M0 M1 M2 M3 M4 M5 M6 M7 M8 M9 M10 M11 f0 f1 f2 f3 f4 f5 f6 f7 (ix2 r l)
    = max (decodeRun.sl.v38 (F := Ideal) c M0 M2 M4 M6 f0 f2 f4 f6 (ix2 r l) - decodeRun.sl.v30 (F := Ideal) c M0 M2 M4 M6 f0 f2 f4 f6 (ix2 r l))
        (Ideal.ofBits .f32 0#32)
      * max (decodeRun.sl.v42 (F := Ideal) c M1 M3 M5 M7 f1 f3 f5 f7 (ix2 r l) - decodeRun.sl.v34 (F := Ideal) c M1 M3 M5 M7 f1 f3 f5 f7 (ix2 r l))
        (Ideal.ofBits .f32 0#32) := by
  have e44 : decodeRun.sl.v44 (F := Ideal) c M0 M2 M4 M6 M10 f0 f2 f4 f6 = decodeRun.sl.v38 c M0 M2 M4 M6 f0 f2 f4 f6 :=
    View.readCov_full M10.view _ _ _ []
  have e46 : decodeRun.sl.v46 (F := Ideal) c M0 M2 M4 M6 M8 f0 f2 f4 f6 = decodeRun.sl.v30 c M0 M2 M4 M6 f0 f2 f4 f6 :=
    View.readCov_full M8.view _ _ _ []
  have e51 : decodeRun.sl.v51 (F := Ideal) c M1 M3 M5 M7 M11 f1 f3 f5 f7 = decodeRun.sl.v42 c M1 M3 M5 M7 f1 f3 f5 f7 :=
    View.readCov_full M11.view _ _ _ []
  have e53 : decodeRun.sl.v53 (F := Ideal) c M1 M3 M5 M7 M9 f1 f3 f5 f7 = decodeRun.sl.v34 c M1 M3 M5 M7 f1 f3 f5 f7 :=
    View.readCov_full M9.view _ _ _ []
  pointwise [decodeRun.sl.v58, decodeRun.sl.v50, decodeRun.sl.v57, decodeRun.sl.v48, decodeRun.sl.v55, decodeRun.sl.v45, decodeRun.sl.v47,
    decodeRun.sl.v52, decodeRun.sl.v54, decodeRun.sl.v49, decodeRun.sl.cst_34]
  rw [e44, e46, e51, e53]

end body

variable (V : (c : Dev nD) → (b : Ref sig .tc) → Buf (Elt Ideal) ((c : Thread nD τ).loc b)) (c : Dev nD)

/-! The block each window fetches is its plane. -/

theorem dblk0 : dblk V c 0 = (V c main_call0_v7 : S160x128.Idx → EReal) := by
  funext i
  unfold dblk
  blk_ext [show win0_0.index t0_0 = ![0, 0] by decide +kernel]

theorem dblk1 : dblk V c 1 = (V c main_call0_v13 : S160x128.Idx → EReal) := by
  funext i
  unfold dblk
  blk_ext [show win0_1.index t0_0 = ![0, 0] by decide +kernel]

theorem dblk2 : dblk V c 2 = (V c main_call0_v19 : S160x128.Idx → EReal) := by
  funext i
  unfold dblk
  blk_ext [show win0_2.index t0_0 = ![0, 0] by decide +kernel]

theorem dblk3 : dblk V c 3 = (V c main_call0_v25 : S160x128.Idx → EReal) := by
  funext i
  unfold dblk
  blk_ext [show win0_3.index t0_0 = ![0, 0] by decide +kernel]

theorem dblk4 : dblk V c 4 = (V c main_call0_v29 : S160x128.Idx → EReal) := by
  funext i
  unfold dblk
  blk_ext [show win0_4.index t0_0 = ![0, 0] by decide +kernel]

theorem dblk5 : dblk V c 5 = (V c main_call0_v33 : S160x128.Idx → EReal) := by
  funext i
  unfold dblk
  blk_ext [show win0_5.index t0_0 = ![0, 0] by decide +kernel]

theorem dblk6 : dblk V c 6 = (V c main_call0_v37 : S160x128.Idx → EReal) := by
  funext i
  unfold dblk
  blk_ext [show win0_6.index t0_0 = ![0, 0] by decide +kernel]

theorem dblk7 : dblk V c 7 = (V c main_call0_v41 : S160x128.Idx → EReal) := by
  funext i
  unfold dblk
  blk_ext [show win0_7.index t0_0 = ![0, 0] by decide +kernel]

/-! What the run leaves in the five buffers. -/

theorem wrote8 : (decoded (F := Ideal) V c).1 = decodeRun.sl.v30 (F := Ideal) c (stage0_0 0) (stage0_2 0) (stage0_4 0) (stage0_6 0) (dblk V c 0) (dblk V c 2) (dblk V c 4) (dblk V c 6) := by
  unfold decoded decodeRun
  dsimp only
  refine Eq.trans ?_ (View.read_writes_full (Val := Elt Ideal) (View.whole cc0_stg8_0) (View.whole cc0_stg8_0).junk
    inb_S160x128_S160x128_0_0 _ [])
  rfl

theorem wrote9 : (decoded (F := Ideal) V c).2.1 = decodeRun.sl.v34 (F := Ideal) c (stage0_1 0) (stage0_3 0) (stage0_5 0) (stage0_7 0) (dblk V c 1) (dblk V c 3) (dblk V c 5) (dblk V c 7) := by
  unfold decoded decodeRun
  dsimp only
  refine Eq.trans ?_ (View.read_writes_full (Val := Elt Ideal) (View.whole cc0_stg9_0) (View.whole cc0_stg9_0).junk
    inb_S160x128_S160x128_0_0 _ [])
  rfl

theorem wrote10 : (decoded (F := Ideal) V c).2.2.1 = decodeRun.sl.v38 (F := Ideal) c (stage0_0 0) (stage0_2 0) (stage0_4 0) (stage0_6 0) (dblk V c 0) (dblk V c 2) (dblk V c 4) (dblk V c 6) := by
  unfold decoded decodeRun
  dsimp only
  refine Eq.trans ?_ (View.read_writes_full (Val := Elt Ideal) (View.whole cc0_stg10_0) (View.whole cc0_stg10_0).junk
    inb_S160x128_S160x128_0_0 _ [])
  rfl

theorem wrote11 : (decoded (F := Ideal) V c).2.2.2.1 = decodeRun.sl.v42 (F := Ideal) c (stage0_1 0) (stage0_3 0) (stage0_5 0) (stage0_7 0) (dblk V c 1) (dblk V c 3) (dblk V c 5) (dblk V c 7) := by
  unfold decoded decodeRun
  dsimp only
  refine Eq.trans ?_ (View.read_writes_full (Val := Elt Ideal) (View.whole cc0_stg11_0) (View.whole cc0_stg11_0).junk
    inb_S160x128_S160x128_0_0 _ [])
  rfl

theorem wrote12 : (decoded (F := Ideal) V c).2.2.2.2.1 = decodeRun.sl.v58 (F := Ideal) c (stage0_0 0) (stage0_1 0) (stage0_2 0) (stage0_3 0) (stage0_4 0) (stage0_5 0) (stage0_6 0) (stage0_7 0) (stage0_8 0) (stage0_9 0) (stage0_10 0) (stage0_11 0) (dblk V c 0) (dblk V c 1) (dblk V c 2) (dblk V c 3) (dblk V c 4) (dblk V c 5) (dblk V c 6) (dblk V c 7) := by
  unfold decoded decodeRun
  dsimp only
  refine Eq.trans ?_ (View.read_writes_full (Val := Elt Ideal) (View.whole cc0_stg12_0) (View.whole cc0_stg12_0).junk
    inb_S160x128_S160x128_0_0 _ [])
  rfl

theorem arr8 : ((dat0 V c).arrAt 8 cfg0.N : S160x128.Idx → EReal) = (decoded (F := Ideal) V c).1 := by
  funext i
  refine ((dat0 V c).arrAt_emb_eq_after_last 8 t0_0 (by decide +kernel) i).trans ?_
  blk_simp
  rfl

theorem arr9 : ((dat0 V c).arrAt 9 cfg0.N : S160x128.Idx → EReal) = (decoded (F := Ideal) V c).2.1 := by
  funext i
  refine ((dat0 V c).arrAt_emb_eq_after_last 9 t0_0 (by decide +kernel) i).trans ?_
  blk_simp
  rfl

theorem arr10 : ((dat0 V c).arrAt 10 cfg0.N : S160x128.Idx → EReal) = (decoded (F := Ideal) V c).2.2.1 := by
  funext i
  refine ((dat0 V c).arrAt_emb_eq_after_last 10 t0_0 (by decide +kernel) i).trans ?_
  blk_simp
  rfl

theorem arr11 : ((dat0 V c).arrAt 11 cfg0.N : S160x128.Idx → EReal) = (decoded (F := Ideal) V c).2.2.2.1 := by
  funext i
  refine ((dat0 V c).arrAt_emb_eq_after_last 11 t0_0 (by decide +kernel) i).trans ?_
  blk_simp
  rfl

theorem arr12 : ((dat0 V c).arrAt 12 cfg0.N : S160x128.Idx → EReal) = (decoded (F := Ideal) V c).2.2.2.2.1 := by
  funext i
  refine ((dat0 V c).arrAt_emb_eq_after_last 12 t0_0 (by decide +kernel) i).trans ?_
  blk_simp
  rfl

end Cert.Proof.K

end
-- ==== Proof.KHost.lean ====
/-
  The host operations around the two kernels, and the program's three results from its arguments.
-/
module

public import proofs.«01_k».proof.Proof.KArr
public import proofs.«01_k».proof.Proof.KDecode
public import Idealize.ShloMosaic.Lib.StableHlo.ReadAt

@[expose] public section

noncomputable section

namespace Cert.Proof.K

open Cert.KernelIdeal Cert.KernelIdeal.Gen
open Idealize.ShloMosaic Idealize.ShloMosaic.Pointwise
open Idealize.ShloMosaic.TcCoe Idealize.ShloMosaic.Tactic

section host

variable (W : Valuation τ sig (Elt Ideal))

/-- The padded logits of class `k`, from the logits of all classes. -/
theorem logits_read (k : Fin 80) (r : Fin 160) (l : Fin 128) :
    (StableHlo.after hostOps1 W (Proc.devRef .tc main_call0_v46) : S80x160x128.Idx → EReal) (ix3 k r l)
      = if h : r.val * 128 + l.val < 20000 then (W (Proc.devRef .tc main_call0_v0) : S20000x81.Idx → EReal) (ix2 ⟨r.val * 128 + l.val, h⟩ ⟨1 + k.val, by omega⟩)
        else Ideal.ofBits .f32 0xCE6E6B28#32 := by
  after_reads_at
  rfl

/-- The logits of all classes are the first argument's. -/
theorem all_read (n : Fin 20000) (k : Fin 81) :
    (StableHlo.after hostOps0 W (Proc.devRef .tc main_call0_v0) : S20000x81.Idx → EReal) (ix2 n k)
      = (W (Proc.devRef .tc main_arg0) : S1x20000x81.Idx → EReal) (ix3 0 n k) := by
  after_reads_at

/-! The eight planes, at a candidate. -/

theorem plane_read0 (n : Fin 20000) :
    (StableHlo.after hostOps0 W (Proc.devRef .tc main_call0_v7) : S160x128.Idx → EReal) (ix2 (rowOf n) (laneOf n))
      = Ideal.div ((W (Proc.devRef .tc main_arg1) : S1x20000x4.Idx → EReal) (ix3 0 n 0)) (Ideal.ofBits .f32 0x41200000#32) := by
  have e : ∀ h : n.val / 128 * 128 + n.val % 128 < 20000, (⟨n.val / 128 * 128 + n.val % 128, h⟩ : Fin 20000) = n := fun h => Fin.ext (by
    show n.val / 128 * 128 + n.val % 128 = n.val
    omega)
  after_reads_at
  rw [dif_pos (by omega), e]

theorem plane_read1 (n : Fin 20000) :
    (StableHlo.after hostOps0 W (Proc.devRef .tc main_call0_v13) : S160x128.Idx → EReal) (ix2 (rowOf n) (laneOf n))
      = Ideal.div ((W (Proc.devRef .tc main_arg1) : S1x20000x4.Idx → EReal) (ix3 0 n 1)) (Ideal.ofBits .f32 0x41200000#32) := by
  have e : ∀ h : n.val / 128 * 128 + n.val % 128 < 20000, (⟨n.val / 128 * 128 + n.val % 128, h⟩ : Fin 20000) = n := fun h => Fin.ext (by
    show n.val / 128 * 128 + n.val % 128 = n.val
    omega)
  after_reads_at
  rw [dif_pos (by omega), e]

theorem plane_read2 (n : Fin 20000) :
    (StableHlo.after hostOps0 W (Proc.devRef .tc main_call0_v19) : S160x128.Idx → EReal) (ix2 (rowOf n) (laneOf n))
      = Ideal.div ((W (Proc.devRef .tc main_arg1) : S1x20000x4.Idx → EReal) (ix3 0 n 2)) (Ideal.ofBits .f32 0x40A00000#32) := by
  have e : ∀ h : n.val / 128 * 128 + n.val % 128 < 20000, (⟨n.val / 128 * 128 + n.val % 128, h⟩ : Fin 20000) = n := fun h => Fin.ext (by
    show n.val / 128 * 128 + n.val % 128 = n.val
    omega)
  after_reads_at
  rw [dif_pos (by omega), e]

theorem plane_read3 (n : Fin 20000) :
    (StableHlo.after hostOps0 W (Proc.devRef .tc main_call0_v25) : S160x128.Idx → EReal) (ix2 (rowOf n) (laneOf n))
      = Ideal.div ((W (Proc.devRef .tc main_arg1) : S1x20000x4.Idx → EReal) (ix3 0 n 3)) (Ideal.ofBits .f32 0x40A00000#32) := by
  have e : ∀ h : n.val / 128 * 128 + n.val % 128 < 20000, (⟨n.val / 128 * 128 + n.val % 128, h⟩ : Fin 20000) = n := fun h => Fin.ext (by
    show n.val / 128 * 128 + n.val % 128 = n.val
    omega)
  after_reads_at
  rw [dif_pos (by omega), e]

theorem plane_read4 (n : Fin 20000) :
    (StableHlo.after hostOps0 W (Proc.devRef .tc main_call0_v29) : S160x128.Idx → EReal) (ix2 (rowOf n) (laneOf n))
      = (W (Proc.devRef .tc main_arg2) : S20000x4.Idx → EReal) (ix2 n 0) := by
  have e : ∀ h : n.val / 128 * 128 + n.val % 128 < 20000, (⟨n.val / 128 * 128 + n.val % 128, h⟩ : Fin 20000) = n := fun h => Fin.ext (by
    show n.val / 128 * 128 + n.val % 128 = n.val
    omega)
  after_reads_at
  rw [dif_pos (by omega), e]

theorem plane_read5 (n : Fin 20000) :
    (StableHlo.after hostOps0 W (Proc.devRef .tc main_call0_v33) : S160x128.Idx → EReal) (ix2 (rowOf n) (laneOf n))
      = (W (Proc.devRef .tc main_arg2) : S20000x4.Idx → EReal) (ix2 n 1) := by
  have e : ∀ h : n.val / 128 * 128 + n.val % 128 < 20000, (⟨n.val / 128 * 128 + n.val % 128, h⟩ : Fin 20000) = n := fun h => Fin.ext (by
    show n.val / 128 * 128 + n.val % 128 = n.val
    omega)
  after_reads_at
  rw [dif_pos (by omega), e]

theorem plane_read6 (n : Fin 20000) :
    (StableHlo.after hostOps0 W (Proc.devRef .tc main_call0_v37) : S160x128.Idx → EReal) (ix2 (rowOf n) (laneOf n))
      = (W (Proc.devRef .tc main_arg2) : S20000x4.Idx → EReal) (ix2 n 2) := by
  have e : ∀ h : n.val / 128 * 128 + n.val % 128 < 20000, (⟨n.val / 128 * 128 + n.val % 128, h⟩ : Fin 20000) = n := fun h => Fin.ext (by
    show n.val / 128 * 128 + n.val % 128 = n.val
    omega)
  after_reads_at
  rw [dif_pos (by omega), e]

theorem plane_read7 (n : Fin 20000) :
    (StableHlo.after hostOps0 W (Proc.devRef .tc main_call0_v41) : S160x128.Idx → EReal) (ix2 (rowOf n) (laneOf n))
      = (W (Proc.devRef .tc main_arg2) : S20000x4.Idx → EReal) (ix2 n 3) := by
  have e : ∀ h : n.val / 128 * 128 + n.val % 128 < 20000, (⟨n.val / 128 * 128 + n.val % 128, h⟩ : Fin 20000) = n := fun h => Fin.ext (by
    show n.val / 128 * 128 + n.val % 128 = n.val
    omega)
  after_reads_at
  rw [dif_pos (by omega), e]

/-! The results. -/

theorem boxes_read (k : Fin 80) (j : Fin 100) (d : Fin 4) :
    (StableHlo.after hostOps2 W (Proc.devRef .tc main_v0_0) : S80x100x4.Idx → EReal) (ix3 k j d)
      = (W (Proc.devRef .tc main_call0_v47_0) : S80x104x128.Idx → EReal) (ix3 k ⟨j.val, by omega⟩ ⟨d.val, by omega⟩) := by
  after_reads_at

theorem labels_read (k : Fin 80) (j : Fin 100) :
    (StableHlo.after hostOps2 W (Proc.devRef .tc main_v0_1) : S80x100.Idx → BitVec 32) (ix2 k j) = IntOp.addi 1#32 (BitVec.ofNat 32 k.val) := by
  after_reads_at

theorem scores_read (k : Fin 80) (j : Fin 100) :
    (StableHlo.after hostOps2 W (Proc.devRef .tc main_v0_2) : S80x100.Idx → EReal) (ix2 k j)
      = (W (Proc.devRef .tc main_call0_v47_1) : S80x104x8.Idx → EReal) (ix3 k ⟨j.val, by omega⟩ 0) := by
  after_reads_at

end host

section whole

variable (m : (ℓ : Loc nD τ sig) → Buf (Elt Ideal) ℓ) (c : Dev nD)

/-- The three arguments: logits, offsets, candidates. -/
abbrev aL : S1x20000x81.Idx → EReal := m ((c : Thread nD τ).loc main_arg0)
abbrev aD : S1x20000x4.Idx → EReal := m ((c : Thread nD τ).loc main_arg1)
abbrev aP : S20000x4.Idx → EReal := m ((c : Thread nD τ).loc main_arg2)

/-- The logits of class `k`, -/
def mx (k : Fin 80) (n : Fin 20000) : EReal := aL m c (ix3 0 n ⟨1 + k.val, by omega⟩)
/-- and the corners of the candidates. -/
def mB (n : Fin 20000) : Sel.Box := Sel.corners (fun d => aD m c (ix3 0 n d)) (fun d => aP m c (ix2 n d))

theorem rows (k : Fin 80) : Rows (W3 m c main_call0_v46) k (mx m c k) where
  at' n := by
    have hn : (rowOf n).val * 128 + (laneOf n).val < 20000 := by
      show n.val / 128 * 128 + n.val % 128 < 20000
      omega
    refine (logits_read (W2 m c) k _ _).trans ?_
    rw [dif_pos hn, W2_of m c main_call0_v0 (by decide) (by decide) (by decide) (by decide) (by decide)]
    refine (all_read (V0 m c) _ _).trans ?_
    exact congrArg (fun n => aL m c (ix3 0 n ⟨1 + k.val, by omega⟩)) (Fin.ext (by
      show n.val / 128 * 128 + n.val % 128 = n.val
      omega))
  pad r l hrl := by
    refine (logits_read (W2 m c) k r l).trans ?_
    rw [dif_neg (by omega)]

/-- No operation between the kernels writes a plane. -/
theorem kept (r : Ref sig .tc) (h : r ∉ hostOps1_W) : W3 m c r = W2 m c r :=
  StableHlo.after_of_writes_sub hostOps1 _ hostOps1_writes h

/-! What the kernel decodes from, at a candidate: quotients of the offsets, and the candidates. -/

theorem read0 (n : Fin 20000) : at2 c (stage0_0 0) (dblk (fun c b => V1 m c b) c 0) (rowOf n) (laneOf n)
    = Ideal.div (aD m c (ix3 0 n 0)) (Ideal.ofBits .f32 0x41200000#32) := by
  rw [dblk0]
  exact plane_read0 (V0 m c) n

theorem read1 (n : Fin 20000) : at2 c (stage0_1 0) (dblk (fun c b => V1 m c b) c 1) (rowOf n) (laneOf n)
    = Ideal.div (aD m c (ix3 0 n 1)) (Ideal.ofBits .f32 0x41200000#32) := by
  rw [dblk1]
  exact plane_read1 (V0 m c) n

theorem read2 (n : Fin 20000) : at2 c (stage0_2 0) (dblk (fun c b => V1 m c b) c 2) (rowOf n) (laneOf n)
    = Ideal.div (aD m c (ix3 0 n 2)) (Ideal.ofBits .f32 0x40A00000#32) := by
  rw [dblk2]
  exact plane_read2 (V0 m c) n

theorem read3 (n : Fin 20000) : at2 c (stage0_3 0) (dblk (fun c b => V1 m c b) c 3) (rowOf n) (laneOf n)
    = Ideal.div (aD m c (ix3 0 n 3)) (Ideal.ofBits .f32 0x40A00000#32) := by
  rw [dblk3]
  exact plane_read3 (V0 m c) n

theorem read4 (n : Fin 20000) : at2 c (stage0_4 0) (dblk (fun c b => V1 m c b) c 4) (rowOf n) (laneOf n)
    = aP m c (ix2 n 0) := by
  rw [dblk4]
  exact plane_read4 (V0 m c) n

theorem read5 (n : Fin 20000) : at2 c (stage0_5 0) (dblk (fun c b => V1 m c b) c 5) (rowOf n) (laneOf n)
    = aP m c (ix2 n 1) := by
  rw [dblk5]
  exact plane_read5 (V0 m c) n

theorem read6 (n : Fin 20000) : at2 c (stage0_6 0) (dblk (fun c b => V1 m c b) c 6) (rowOf n) (laneOf n)
    = aP m c (ix2 n 2) := by
  rw [dblk6]
  exact plane_read6 (V0 m c) n

theorem read7 (n : Fin 20000) : at2 c (stage0_7 0) (dblk (fun c b => V1 m c b) c 7) (rowOf n) (laneOf n)
    = aP m c (ix2 n 3) := by
  rw [dblk7]
  exact plane_read7 (V0 m c) n

/-! The planes the suppression kernel is entered with. -/

theorem plane_out0 : (W3 m c main_call0_v42_0 : S160x128.Idx → EReal) = (decoded (F := Ideal) (fun c b => V1 m c b) c).1 :=
  (kept m c main_call0_v42_0 (by decide)).trans ((W2_0 m c).trans (arr8 (fun c b => V1 m c b) c))

theorem corner0 : Plane (W3 m c main_call0_v42_0) fun n => mB m c n 0 := fun n => by
  rw [plane_out0, wrote8, x0_at, read0, read2, read4, read6]
  rfl

theorem plane_out1 : (W3 m c main_call0_v42_1 : S160x128.Idx → EReal) = (decoded (F := Ideal) (fun c b => V1 m c b) c).2.1 :=
  (kept m c main_call0_v42_1 (by decide)).trans ((W2_1 m c).trans (arr9 (fun c b => V1 m c b) c))

theorem corner1 : Plane (W3 m c main_call0_v42_1) fun n => mB m c n 1 := fun n => by
  rw [plane_out1, wrote9, y0_at, read1, read3, read5, read7]
  rfl

theorem plane_out2 : (W3 m c main_call0_v42_2 : S160x128.Idx → EReal) = (decoded (F := Ideal) (fun c b => V1 m c b) c).2.2.1 :=
  (kept m c main_call0_v42_2 (by decide)).trans ((W2_2 m c).trans (arr10 (fun c b => V1 m c b) c))

theorem corner2 : Plane (W3 m c main_call0_v42_2) fun n => mB m c n 2 := fun n => by
  rw [plane_out2, wrote10, x1_at, read0, read2, read4, read6]
  rfl

theorem plane_out3 : (W3 m c main_call0_v42_3 : S160x128.Idx → EReal) = (decoded (F := Ideal) (fun c b => V1 m c b) c).2.2.2.1 :=
  (kept m c main_call0_v42_3 (by decide)).trans ((W2_3 m c).trans (arr11 (fun c b => V1 m c b) c))

theorem corner3 : Plane (W3 m c main_call0_v42_3) fun n => mB m c n 3 := fun n => by
  rw [plane_out3, wrote11, y1_at, read1, read3, read5, read7]
  rfl

theorem plane_out4 : (W3 m c main_call0_v42_4 : S160x128.Idx → EReal) = (decoded (F := Ideal) (fun c b => V1 m c b) c).2.2.2.2.1 :=
  (kept m c main_call0_v42_4 (by decide)).trans ((W2_4 m c).trans (arr12 (fun c b => V1 m c b) c))

theorem corner4 : Plane (W3 m c main_call0_v42_4) fun n => Sel.area (mB m c n) := fun n => by
  have h0 := corner0 m c n
  have h1 := corner1 m c n
  have h2 := corner2 m c n
  have h3 := corner3 m c n
  rw [plane_out0, wrote8] at h0
  rw [plane_out1, wrote9] at h1
  rw [plane_out2, wrote10] at h2
  rw [plane_out3, wrote11] at h3
  rw [plane_out4, wrote12, area_read, h0, h1, h2, h3, show Ideal.ofBits .f32 0#32 = 0 by simp [Ideal.ofBits, Ideal.ieee]]
  rfl

theorem planes : Planes (W3 m c main_call0_v42_0) (W3 m c main_call0_v42_1) (W3 m c main_call0_v42_2) (W3 m c main_call0_v42_3)
    (W3 m c main_call0_v42_4) (mB m c) :=
  ⟨corner0 m c, corner1 m c, corner2 m c, corner3 m c, corner4 m c⟩

/-! The three results. -/

variable {c} {o : Fin2 (F := Ideal) c} (h : May m c o)

include h

theorem end_box (k : Fin 80) (j : Fin 100) (d : Fin 4) :
    (W5 m c o (Proc.devRef .tc main_v0_0) : S80x100x4.Idx → EReal) (ix3 k j d) = Sel.outBox (mx m c k) (mB m c) j.val d := by
  refine (boxes_read (W4 m c o) k j d).trans ?_
  rw [W4_0]
  exact may_box m (planes m c) (rows m c) h k j d

theorem end_score (k : Fin 80) (j : Fin 100) :
    (W5 m c o (Proc.devRef .tc main_v0_2) : S80x100.Idx → EReal) (ix2 k j) = Sel.outScore (mx m c k) (mB m c) j.val := by
  refine (scores_read (W4 m c o) k j).trans ?_
  rw [W4_1]
  exact may_score m (planes m c) (rows m c) h k j

omit h in
theorem end_label (k : Fin 80) (j : Fin 100) :
    (W5 m c o (Proc.devRef .tc main_v0_1) : S80x100.Idx → BitVec 32) (ix2 k j) = IntOp.addi 1#32 (BitVec.ofNat 32 k.val) :=
  labels_read (W4 m c o) k j

end whole

end Cert.Proof.K

end
-- ==== Proof.RefPick.lean ====
/-
  Two operations of the reference read at an index: its arg-max over a row of scores, and its lookup of the boxes that
  the arg-max names.
-/
module

public import proofs.«01_k».proof.Proof.Model
public import proofs.«01_k».proof.Proof.Gen.ReferenceIdeal

@[expose] public section

noncomputable section

namespace Cert.Proof.R

open Cert.ReferenceIdeal Cert.ReferenceIdeal.Gen
open Idealize.ShloMosaic Idealize.ShloMosaic.Pointwise

/-- A pair comes no earlier than the target in the arg-max's order: a smaller value, or the same value and an index no
    smaller. -/
def Under (t x : EReal × BitVec 32) : Prop := x.1 < t.1 ∨ (x.1 = t.1 ∧ t.2.toInt ≤ x.2.toInt)

theorem pick_pair (a b : EReal × BitVec 32) :
    reducer_argmax_f32_i32 (F := Ideal) a b
      = if b.1 < a.1 ∨ (a.1 = b.1 ∧ a.2.toInt < b.2.toInt) then (a.1, a.2) else (b.1, b.2) := by
  obtain ⟨a1, a2⟩ := a
  obtain ⟨b1, b2⟩ := b
  simp only [reducer_argmax_f32_i32, Ideal.cmpf_def, Ideal.cmp, IntOp.cmpi, IntOp.ori, IntOp.andi, Scalar.select]
  by_cases h : b1 < a1
  · have hne : a1 ≠ b1 := h.ne'
    simp [h, hne]
  · by_cases e : a1 = b1
    · subst e
      by_cases l : a2.toInt < b2.toInt
      · simp [l, BitVec.slt]
      · simp [l, BitVec.slt]
    · simp [h, e]

/-- The fold of the arg-max's step over a list that holds the target, everything else under it, is the target. -/
theorem fold_pick (t : EReal × BitVec 32) : ∀ (l : List (EReal × BitVec 32)) (a : EReal × BitVec 32),
    Under t a → (∀ x ∈ l, Under t x) → (t ∈ l ∨ a = t) → l.foldl (reducer_argmax_f32_i32 (F := Ideal)) a = t
  | [], a, _, _, h => by
    rcases h with h | h
    · exact absurd h List.not_mem_nil
    · exact h
  | b :: l, a, ha, hl, h => by
    rw [List.foldl_cons]
    have hb := hl b List.mem_cons_self
    have hs : Under t (reducer_argmax_f32_i32 (F := Ideal) a b) := by
      rw [pick_pair]; split
      · exact ha
      · exact hb
    refine fold_pick t l _ hs (fun x hx => hl x (List.mem_cons_of_mem _ hx)) ?_
    have hat : a = t → reducer_argmax_f32_i32 (F := Ideal) a b = t := fun e => by
      subst e
      rw [pick_pair]
      rcases hb with hb | ⟨hb, hi⟩
      · rw [if_pos (.inl hb)]
      · rcases hi.lt_or_eq with hi | hi
        · rw [if_pos (.inr ⟨hb.symm, hi⟩)]
        · rw [if_neg]
          · exact Prod.ext hb (BitVec.eq_of_toInt_eq hi.symm)
          · rintro (h' | ⟨_, h'⟩)
            · exact absurd hb h'.ne
            · omega
    have hbt : b = t → reducer_argmax_f32_i32 (F := Ideal) a b = t := fun e => by
      subst e
      rw [pick_pair, if_neg]
      rintro (h' | ⟨h', h''⟩)
      · rcases ha with ha | ⟨ha, _⟩
        · exact absurd h' (not_lt.mpr ha.le)
        · exact absurd ha h'.ne'
      · rcases ha with ha | ⟨_, ha⟩
        · exact absurd h' ha.ne
        · omega
    rcases h with h | h
    · rcases List.mem_cons.mp h with h | h
      · exact .inr (hbt h.symm)
      · exact .inl h
    · exact .inr (hat h)

theorem toInt_small (n : ℕ) (h : n < 2 ^ 31) : (BitVec.ofNat 32 n).toInt = n := by
  have hn : n % 2 ^ 32 = n := Nat.mod_eq_of_lt (by omega)
  rw [BitVec.toInt_eq_toNat_cond, BitVec.toNat_ofNat, hn, if_pos (by omega)]

/-- The arg-max of a row, at the first index of largest value, when that value is above minus infinity. -/
theorem argmax_at (P : S80x20000.Idx → EReal) (c : Fin 80) (i : Fin 20000)
    (hi : Sel.First (fun n => P (ix2 c n)) i) (hb : ⊥ < P (ix2 c i)) :
    (Host.argReduce (F := Ideal) reducer_argmax_f32_i32 (P : FVec Ideal S80x20000 .f32) (iotaInDim S80x20000 32 1)
      (constant S_ .f32 0xFF800000#32) (constantI S_ 32 0#32) reducesTo_S80x20000_S80_d1 h_S_ (ix1 c)).2 = BitVec.ofNat 32 i.val := by
  rw [Ideal.argReduce_eq_reduce2, Host.reduce2_eq_foldl_fiber]
  have key : (Host.argReduceFiber (P : S80x20000.Idx → EReal) (iotaInDim S80x20000 32 1) reducesTo_S80x20000_S80_d1 (ix1 c)).foldl
      (reducer_argmax_f32_i32 (F := Ideal)) ((constant S_ .f32 0xFF800000#32 : FVec Ideal S_ .f32) (Shape.Idx.first h_S_), (constantI S_ 32 0#32) (Shape.Idx.first h_S_))
      = (P (ix2 c i), BitVec.ofNat 32 i.val) := by
    have hdrop : ∀ y : S80x20000.Idx, reducesTo_S80x20000_S80_d1.drop y = ix1 (y 0) := by
      intro y
      funext b
      match b with
      | ⟨0, _⟩ => rfl
    refine fold_pick _ _ _ ?_ ?_ (.inl ?_)
    · left
      show Ideal.ofBits .f32 0xFF800000#32 < _
      rwa [show Ideal.ofBits .f32 0xFF800000#32 = ⊥ by simp [Ideal.ofBits, Ideal.ieee]]
    · intro x hx
      simp only [Host.argReduceFiber, List.mem_map, List.mem_filter] at hx
      obtain ⟨y', ⟨-, hy⟩, rfl⟩ := hx
      generalize S80x20000.rowMajor.symm y' = y at hy ⊢
      have hy' : reducesTo_S80x20000_S80_d1.drop y = ix1 c := by simpa using hy
      rw [hdrop] at hy'
      have h0 : y 0 = c := congrFun hy' 0
      have hyy : y = ix2 c (y 1) := by
        funext b
        match b with
        | ⟨0, _⟩ => exact h0
        | ⟨1, _⟩ => rfl
      have hlt : (y 1).val < 20000 := (y 1).isLt
      have hit := i.isLt
      have e2 : (iotaInDim S80x20000 32 1 : IVec S80x20000 32) y = BitVec.ofNat 32 (y 1).val := rfl
      have htop := hi.top (y 1)
      have hfst := hi.first (y 1)
      have hP : P y = P (ix2 c (y 1)) := congrArg P hyy
      unfold Under
      simp only [hP, e2]
      rw [toInt_small _ (by omega), toInt_small _ (by omega)]
      rcases htop.lt_or_eq with h | h
      · exact .inl h
      · exact .inr ⟨h, by exact_mod_cast hfst h⟩
    · simp only [Host.argReduceFiber, List.mem_map, List.mem_filter]
      refine ⟨S80x20000.rowMajor (ix2 c i), ⟨List.mem_finRange _, ?_⟩, ?_⟩
      · rw [Equiv.symm_apply_apply]; exact decide_eq_true (hdrop _)
      · rw [Equiv.symm_apply_apply]; rfl
  rw [key]

/-- The lookup at row `i` of the box table. -/
theorem gather_at (B : S20000x4.Idx → EReal) (I : S80x2.Idx → BitVec 32) (c : Fin 80) (d : Fin 4) (i : Fin 20000)
    (h0 : I (ix2 c (0 : Fin 2)) = BitVec.ofNat 32 i.val) (h1 : I (ix2 c (1 : Fin 2)) = 0#32) :
    Host.gather gather_S20000x4_S80x2_S80x1x4_12_n_n_n_01_1_14 B I (ix3 c (0 : Fin 1) d) = B (ix2 i d) := by
  unfold Host.gather
  refine congrArg B (funext fun a => Fin.ext ?_)
  show gather_S20000x4_S80x2_S80x1x4_12_n_n_n_01_1_14.start (ix3 c (0 : Fin 1) d) I a
    + gather_S20000x4_S80x2_S80x1x4_12_n_n_n_01_1_14.batchCoord (ix3 c (0 : Fin 1) d) a
    + gather_S20000x4_S80x2_S80x1x4_12_n_n_n_01_1_14.offCoord (ix3 c (0 : Fin 1) d) a = _
  have hi := i.isLt
  match a with
  | ⟨0, _⟩ =>
    have hs : gather_S20000x4_S80x2_S80x1x4_12_n_n_n_01_1_14.siIdx (ix3 c (0 : Fin 1) d) ⟨0, by decide⟩ = ix2 c (0 : Fin 2) := by
      funext b
      match b with
      | ⟨0, _⟩ => rfl
      | ⟨1, _⟩ => rfl
    have e : gather_S20000x4_S80x2_S80x1x4_12_n_n_n_01_1_14.start (ix3 c (0 : Fin 1) d) I (⟨0, by decide⟩ : Fin 2)
        = min (I (ix2 c (0 : Fin 2))).toInt.toNat (20000 - 1) := by rw [← hs]; rfl
    rw [e, h0, toInt_small _ (by omega)]
    show min ((i.val : ℤ)).toNat (20000 - 1) + 0 + 0 = i.val
    omega
  | ⟨1, _⟩ =>
    have hs : gather_S20000x4_S80x2_S80x1x4_12_n_n_n_01_1_14.siIdx (ix3 c (0 : Fin 1) d) ⟨1, by decide⟩ = ix2 c (1 : Fin 2) := by
      funext b
      match b with
      | ⟨0, _⟩ => rfl
      | ⟨1, _⟩ => rfl
    have e : gather_S20000x4_S80x2_S80x1x4_12_n_n_n_01_1_14.start (ix3 c (0 : Fin 1) d) I (⟨1, by decide⟩ : Fin 2)
        = min (I (ix2 c (1 : Fin 2))).toInt.toNat (4 - 4) := by rw [← hs]; rfl
    rw [e, h1]
    show 0 + 0 + d.val = d.val
    omega

end Cert.Proof.R

end
-- ==== Proof.RefStep.lean ====
/-
  One trip of the reference's loop, stretch by stretch: what each stretch leaves in the buffers the next one reads.
-/
module

public import proofs.«01_k».proof.Proof.RefRun
public import proofs.«01_k».proof.Proof.RefPick
public import Idealize.ShloMosaic.Lib.StableHlo.ReadAt

@[expose] public section

noncomputable section

namespace Cert.Proof.R

open Cert.ReferenceIdeal Cert.ReferenceIdeal.Gen
open Idealize.ShloMosaic Idealize.ShloMosaic.Pointwise
open Idealize.ShloMosaic.TcCoe
open Idealize.ShloMosaic.StableHlo (after)

variable (X : Valuation τ sig (Elt Ideal))

/-- The boxes, -/
abbrev vB : S20000x4.Idx → EReal := X (Proc.devRef .tc main_v79_0)
/-- the candidates' numbers, -/
abbrev vI : S20000.Idx → BitVec 32 := X (Proc.devRef .tc main_v79_1)
/-- the counter, -/
abbrev vK : S_.Idx → BitVec 32 := X (Proc.devRef .tc main_v79_2)
/-- the scores, -/
abbrev vP : S80x20000.Idx → EReal := X (Proc.devRef .tc main_v79_3)
/-- the boxes written out, -/
abbrev vO : S100x80x4.Idx → EReal := X (Proc.devRef .tc main_v79_4)
/-- and the scores written out. -/
abbrev vS : S100x80.Idx → EReal := X (Proc.devRef .tc main_v79_5)

/-- The arg-max, -/
abbrev vA : S80.Idx → BitVec 32 := X (Proc.devRef .tc main_while0b_v87)
/-- the maximum, -/
abbrev vM : S80.Idx → EReal := X (Proc.devRef .tc main_while0b_v88)
/-- whether it is positive, -/
abbrev vQ : S80.Idx → BitVec 1 := X (Proc.devRef .tc main_while0b_v90)
/-- the box taken, -/
abbrev vT : S80x4.Idx → EReal := X (Proc.devRef .tc main_while0b_v103)
/-- the shared areas, -/
abbrev vX : S80x20000.Idx → EReal := X (Proc.devRef .tc main_while0b_v125)
/-- the taken box's area, -/
abbrev vC : S80.Idx → EReal := X (Proc.devRef .tc main_while0b_v140)
/-- the boxes' areas, -/
abbrev vD : S20000.Idx → EReal := X (Proc.devRef .tc main_while0b_v155)
/-- and the next scores. -/
abbrev vN : S80x20000.Idx → EReal := X (Proc.devRef .tc main_while0b_v173)

/-- Two valuations agree on what the loop carries. -/
structure Same (Y : Valuation τ sig (Elt Ideal)) : Prop where
  b : vB Y = vB X
  i : vI Y = vI X
  k : vK Y = vK X
  p : vP Y = vP X
  o : vO Y = vO X
  s : vS Y = vS X

theorem Same.trans {X Y Z : Valuation τ sig (Elt Ideal)} (h : Same X Y) (h' : Same Y Z) : Same X Z :=
  ⟨h'.b.trans h.b, h'.i.trans h.i, h'.k.trans h.k, h'.p.trans h.p, h'.o.trans h.o, h'.s.trans h.s⟩

theorem sameC : Same X (after condOps X) := by constructor <;> after_reads_simp
theorem same0 : Same X (after bodyOps0 X) := by constructor <;> after_reads_simp
theorem same1 : Same X (after bodyOps1 X) := by constructor <;> after_reads_simp
theorem same2 : Same X (after bodyOps2 X) := by constructor <;> after_reads_simp
theorem same3 : Same X (after bodyOps3 X) := by constructor <;> after_reads_simp
theorem same4 : Same X (after bodyOps4 X) := by constructor <;> after_reads_simp

/-- The first stretch: the arg-max, -/
theorem arg_at (c : _root_.Fin 80) (i : _root_.Fin 20000) (hi : Sel.First (fun n => vP X (ix2 c n)) i) (hb : ⊥ < vP X (ix2 c i)) :
    vA (after bodyOps0 X) (ix1 c) = BitVec.ofNat 32 i.val := by
  refine Eq.trans ?_ (argmax_at (vP X) c i hi hb)
  after_reads_simp
  rfl

/-- and the maximum. -/
theorem max_at (c : _root_.Fin 80) (i : _root_.Fin 20000) (hi : Sel.First (fun n => vP X (ix2 c n)) i) :
    vM (after bodyOps0 X) (ix1 c) = vP X (ix2 c i) := by
  after_reads_at
  rw [show Ideal.ofBits .f32 4286578688#32 = ⊥ by simp [Ideal.ofBits, Ideal.ieee]]
  exact le_antisymm ((Finset.fold_max_le _).mpr ⟨bot_le, fun n _ => hi.top n⟩) ((Finset.le_fold_max _).mpr (.inr ⟨i, Finset.mem_univ _, le_rfl⟩))

/-- The second stretch: the box taken, -/
theorem take_at (c : _root_.Fin 80) (d : _root_.Fin 4) (i : _root_.Fin 20000) (h : vA X (ix1 c) = BitVec.ofNat 32 i.val) :
    vT (after bodyOps1 X) (ix2 c d) = vB X (ix2 i d) := by
  after_reads_at
  have hi := i.isLt
  refine gather_at (vB X) _ c d i ?_ ?_
  · pointwise
    after_reads_at
    have h' : X (Proc.devRef .tc main_while0b_v87) (ix1 c) = BitVec.ofNat 32 i.val := h
    rw [h']
    have hs : IntOp.cmpi .slt (BitVec.ofNat 32 i.val) 0#32 = 0#1 := by
      simp only [IntOp.cmpi, BitVec.slt, toInt_small i.val (by omega)]
      rw [decide_eq_false (by simp)]; rfl
    rw [hs]; rfl
  · pointwise
    after_reads_at
    rfl

/-- and whether the maximum is positive. -/
theorem pos_at (c : _root_.Fin 80) : vQ (after bodyOps1 X) (ix1 c) = BitVec.ofBool (decide (0 < vM X (ix1 c))) := by
  after_reads_at

/-- The third stretch: the shared areas. -/
theorem meet_at (c : _root_.Fin 80) (n : _root_.Fin 20000) :
    vX (after bodyOps2 X) (ix2 c n) = Sel.meet (fun d => vT X (ix2 c d)) (fun d => vB X (ix2 n d)) := by
  after_reads_at
  rfl

/-- The fourth stretch: the taken box's area, -/
theorem area1_at (c : _root_.Fin 80) : vC (after bodyOps3 X) (ix1 c) = Sel.area (fun d => vT X (ix2 c d)) := by
  after_reads_at
  rfl

/-- and the boxes' areas. -/
theorem area2_at (n : _root_.Fin 20000) : vD (after bodyOps3 X) (ix1 n) = Sel.area (fun d => vB X (ix2 n d)) := by
  after_reads_at
  rfl

/-- and what is carried on. -/
theorem carry : vB (after bodyOps5 X) = vB X ∧ vI (after bodyOps5 X) = vI X ∧ vP (after bodyOps5 X) = vN X := by
  refine ⟨?_, ?_, ?_⟩ <;> after_reads_simp <;> rfl

end Cert.Proof.R

end
-- ==== Proof.RefOut.lean ====
/-
  The last two stretches of a trip of the reference's loop: the probabilities struck out, and the row written out.
-/
module

public import proofs.«01_k».proof.Proof.RefStep
public import proofs.«01_k».proof.Proof.RefPick
public import Idealize.ShloMosaic.Lib.StableHlo.ReadAt
public import Idealize.ShloMosaic.Lib.WordCmp

@[expose] public section

noncomputable section

namespace Cert.Proof.R

open Cert.ReferenceIdeal Cert.ReferenceIdeal.Gen
open Idealize.ShloMosaic Idealize.ShloMosaic.Pointwise
open Idealize.ShloMosaic.TcCoe
open Idealize.ShloMosaic.StableHlo (after)

variable (X : Valuation τ sig (Elt Ideal))

/-- The fifth stretch: the next scores. -/
theorem next_at (c : _root_.Fin 80) (n : _root_.Fin 20000) :
    vN (after bodyOps4 X) (ix2 c n) = if Sel.cap < Ideal.div (vX X (ix2 c n)) (vC X (ix1 c) + vD X (ix1 n) - vX X (ix2 c n) + Ideal.ofBits .f32 0x3089705F#32)
      ∨ vI X (ix1 n) = vA X (ix1 c) then Sel.low else vP X (ix2 c n) := by
  after_reads_at
  show Scalar.select (IntOp.ori (BitVec.ofBool (decide _)) (BitVec.ofBool (_ == _))) (Ideal.ofBits .f32 0xBF800000#32) _ = _
  by_cases h1 : Sel.cap < Ideal.div (vX X (ix2 c n)) (vC X (ix1 c) + vD X (ix1 n) - vX X (ix2 c n) + Ideal.ofBits .f32 0x3089705F#32)
  · rw [if_pos (.inl h1), decide_eq_true h1]
    cases (vI X (ix1 n) == vA X (ix1 c)) <;> rfl
  · rw [decide_eq_false h1]
    by_cases h2 : vI X (ix1 n) = vA X (ix1 c)
    · rw [if_pos (.inr h2), beq_iff_eq.mpr h2]; rfl
    · rw [if_neg (not_or.mpr ⟨h1, h2⟩), beq_eq_false_iff_ne.mpr h2]; rfl

/-- The word zero. -/
theorem zero_word : Ideal.ofBits .f32 0#32 = 0 := by
  simp [Ideal.ofBits, Ideal.ieee]

/-- Row `k` of a 100x80x4 array overwritten, read at an index. -/
theorem row3 (x : S100x80x4.Idx → EReal) (u : S1x80x4.Idx → EReal) (f : _root_.Fin 3 → Int) (k : ℕ) (hk : k < 100)
    (hf : ∀ a, f a = ((![k, 0, 0] : _root_.Fin 3 → ℕ) a : Int)) (h) (j : _root_.Fin 100) (c : _root_.Fin 80) (d : _root_.Fin 4) :
    Host.dynamicUpdateSlice (s := S100x80x4) (u := S1x80x4) x u f h (ix3 j c d) = if j.val = k then u (ix3 0 c d) else x (ix3 j c d) := by
  rw [WordCmp.dynamicUpdateSlice_eq_update (s := S100x80x4) (u := S1x80x4) x u f h ![k, 0, 0] ⟨rfl, fun a => by
    fin_cases a
    · show k + 1 ≤ 100
      omega
    · show 0 + 80 ≤ 80
      omega
    · show 0 + 4 ≤ 4
      omega⟩ hf]
  unfold updateSlice
  by_cases hj : j.val = k
  · rw [dif_pos fun a => by
      fin_cases a
      · show k ≤ j.val ∧ j.val < k + 1
        omega
      · show 0 ≤ c.val ∧ c.val < 0 + 80
        omega
      · show 0 ≤ d.val ∧ d.val < 0 + 4
        omega, if_pos hj]
    refine congrArg u (funext fun b => _root_.Fin.ext ?_)
    fin_cases b
    · show j.val - k = 0
      omega
    · rfl
    · rfl
  · rw [dif_neg fun hin => hj (by
      have h0 : k ≤ j.val ∧ j.val < k + 1 := hin 0
      omega), if_neg hj]

/-- Row `k` of a 100x80 array overwritten, read at an index. -/
theorem row2 (x : S100x80.Idx → EReal) (u : S1x80.Idx → EReal) (f : _root_.Fin 2 → Int) (k : ℕ) (hk : k < 100)
    (hf : ∀ a, f a = ((![k, 0] : _root_.Fin 2 → ℕ) a : Int)) (h) (j : _root_.Fin 100) (c : _root_.Fin 80) :
    Host.dynamicUpdateSlice (s := S100x80) (u := S1x80) x u f h (ix2 j c) = if j.val = k then u (ix2 0 c) else x (ix2 j c) := by
  rw [WordCmp.dynamicUpdateSlice_eq_update (s := S100x80) (u := S1x80) x u f h ![k, 0] ⟨rfl, fun a => by
    fin_cases a
    · show k + 1 ≤ 100
      omega
    · show 0 + 80 ≤ 80
      omega⟩ hf]
  unfold updateSlice
  by_cases hj : j.val = k
  · rw [dif_pos fun a => by
      fin_cases a
      · show k ≤ j.val ∧ j.val < k + 1
        omega
      · show 0 ≤ c.val ∧ c.val < 0 + 80
        omega, if_pos hj]
    refine congrArg u (funext fun b => _root_.Fin.ext ?_)
    fin_cases b
    · show j.val - k = 0
      omega
    · rfl
  · rw [dif_neg fun hin => hj (by
      have h0 : k ≤ j.val ∧ j.val < k + 1 := hin 0
      omega), if_neg hj]

/-- The last stretch: the boxes written out, -/
theorem box_at (k : ℕ) (hk : k < 100) (h : vK X = fun _ => BitVec.ofNat 32 k) (j : _root_.Fin 100) (c : _root_.Fin 80) (d : _root_.Fin 4) :
    vO (after bodyOps5 X) (ix3 j c d) = if j.val = k then Scalar.select (vQ X (ix1 c)) (vT X (ix2 c d)) 0 else vO X (ix3 j c d) := by
  after_reads_at
  change Host.dynamicUpdateSlice (s := S100x80x4) (u := S1x80x4) (vO X) _ _ updateFits_S100x80x4_S1x80x4 (ix3 j c d) = _
  refine (row3 (vO X) _ _ k hk ?_ updateFits_S100x80x4_S1x80x4 j c d).trans ?_
  · intro a
    have h' : X (Proc.devRef .tc main_v79_2) = fun _ => BitVec.ofNat 32 k := h
    fin_cases a
    · show BitVec.toInt (StableHlo.upto bodyOps5 X 12 (Proc.devRef .tc main_v79_2) (Shape.Idx.first h_S_)) = _
      after_reads_simp
      rw [h']
      exact toInt_small k (by omega)
    · show BitVec.toInt (StableHlo.upto bodyOps5 X 12 (Proc.devRef .tc main_while0b_call5_c) (Shape.Idx.first h_S_)) = _
      after_reads_simp
      rfl
    · show BitVec.toInt (StableHlo.upto bodyOps5 X 12 (Proc.devRef .tc main_while0b_call5_c_0) (Shape.Idx.first h_S_)) = _
      after_reads_simp
      rfl
  · by_cases hj : j.val = k
    · rw [if_pos hj, if_pos hj]
      pointwise
    · rw [if_neg hj, if_neg hj]

/-- the scores written out, -/
theorem score_at (k : ℕ) (hk : k < 100) (h : vK X = fun _ => BitVec.ofNat 32 k) (j : _root_.Fin 100) (c : _root_.Fin 80) :
    vS (after bodyOps5 X) (ix2 j c) = if j.val = k then Scalar.select (vQ X (ix1 c)) (vM X (ix1 c)) 0 else vS X (ix2 j c) := by
  after_reads_at
  change Host.dynamicUpdateSlice (s := S100x80) (u := S1x80) (vS X) _ _ updateFits_S100x80_S1x80 (ix2 j c) = _
  refine (row2 (vS X) _ _ k hk ?_ updateFits_S100x80_S1x80 j c).trans ?_
  · intro a
    have h' : X (Proc.devRef .tc main_v79_2) = fun _ => BitVec.ofNat 32 k := h
    fin_cases a
    · show BitVec.toInt (StableHlo.upto bodyOps5 X 15 (Proc.devRef .tc main_v79_2) (Shape.Idx.first h_S_)) = _
      after_reads_simp
      rw [h']
      exact toInt_small k (by omega)
    · show BitVec.toInt (StableHlo.upto bodyOps5 X 15 (Proc.devRef .tc main_while0b_call6_c) (Shape.Idx.first h_S_)) = _
      after_reads_simp
      rfl
  · by_cases hj : j.val = k
    · rw [if_pos hj, if_pos hj]
      pointwise
      refine congrArg (Scalar.select _ _) ?_
      exact zero_word
    · rw [if_neg hj, if_neg hj]

end Cert.Proof.R
end
-- ==== Proof.RefLoop.lean ====
/-
  The reference's loop against the selection: what its buffers hold before each trip.
-/
module

public import proofs.«01_k».proof.Proof.RefOut

@[expose] public section

noncomputable section

namespace Cert.Proof.R

open Cert.ReferenceIdeal Cert.ReferenceIdeal.Gen
open Idealize.ShloMosaic Idealize.ShloMosaic.Pointwise
open Idealize.ShloMosaic.TcCoe
open Idealize.ShloMosaic.StableHlo (after)

variable (x : _root_.Fin 80 → _root_.Fin 20000 → EReal) (B : _root_.Fin 20000 → Sel.Box)

/-- What the loop carries before trip `k`. -/
structure St (k : ℕ) (X : Valuation τ sig (Elt Ideal)) : Prop where
  b : ∀ n d, vB X (ix2 n d) = B n d
  i : ∀ n : _root_.Fin 20000, vI X (ix1 n) = BitVec.ofNat 32 n.val
  ctr : vK X = fun _ => BitVec.ofNat 32 k
  p : ∀ c n, vP X (ix2 c n) = Sel.row (x c) B k n
  o : ∀ (j : _root_.Fin 100) c d, j.val < k → vO X (ix3 j c d) = Sel.outBox (x c) B j.val d
  s : ∀ (j : _root_.Fin 100) c, j.val < k → vS X (ix2 j c) = Sel.outScore (x c) B j.val

section keep

variable (X : Valuation τ sig (Elt Ideal))

theorem keepA1 : vA (after bodyOps1 X) = vA X := by after_reads_simp
theorem keepA2 : vA (after bodyOps2 X) = vA X := by after_reads_simp
theorem keepA3 : vA (after bodyOps3 X) = vA X := by after_reads_simp
theorem keepM1 : vM (after bodyOps1 X) = vM X := by after_reads_simp
theorem keepM2 : vM (after bodyOps2 X) = vM X := by after_reads_simp
theorem keepM3 : vM (after bodyOps3 X) = vM X := by after_reads_simp
theorem keepM4 : vM (after bodyOps4 X) = vM X := by after_reads_simp
theorem keepQ2 : vQ (after bodyOps2 X) = vQ X := by after_reads_simp
theorem keepQ3 : vQ (after bodyOps3 X) = vQ X := by after_reads_simp
theorem keepQ4 : vQ (after bodyOps4 X) = vQ X := by after_reads_simp
theorem keepT2 : vT (after bodyOps2 X) = vT X := by after_reads_simp
theorem keepT3 : vT (after bodyOps3 X) = vT X := by after_reads_simp
theorem keepT4 : vT (after bodyOps4 X) = vT X := by after_reads_simp
theorem keepX3 : vX (after bodyOps3 X) = vX X := by after_reads_simp

end keep

/-- A select on a comparison's bit, as the selection writes it. -/
theorem select_shown (s v : EReal) : Scalar.select (BitVec.ofBool (decide (0 < s))) v 0 = Sel.shown s v := by
  unfold Sel.shown
  by_cases h : 0 < s
  · rw [if_pos h, decide_eq_true h]; rfl
  · rw [if_neg h, decide_eq_false h]; rfl

/-- Index words below the width are equal only for equal numbers. -/
theorem word_inj (n i : _root_.Fin 20000) : BitVec.ofNat 32 n.val = BitVec.ofNat 32 i.val ↔ n = i := by
  refine ⟨fun h => _root_.Fin.ext ?_, fun h => h ▸ rfl⟩
  have := congrArg BitVec.toNat h
  simp only [BitVec.toNat_ofNat] at this
  have := n.isLt
  have := i.isLt
  omega

/-- One trip. -/
theorem step {k : ℕ} (hk : k < 100) {X : Valuation τ sig (Elt Ideal)} (h : St x B k X) :
    St x B (k + 1) (StableHlo.afterL bodyI (after condOps X)) := by
  have hctr := ctr_body X
  simp only [StableHlo.afterL_cons, StableHlo.afterL_nil] at hctr ⊢
  have s0 := sameC X
  generalize after condOps X = X0 at s0 hctr ⊢
  have s1 := s0.trans (same0 X0)
  have hA : ∀ c, vA (after bodyOps0 X0) (ix1 c) = BitVec.ofNat 32 (Sel.pick (Sel.row (x c) B k)).val := fun c => by
    have e : (fun n => vP X0 (ix2 c n)) = Sel.row (x c) B k := funext fun n => by rw [s0.p]; exact h.p c n
    refine arg_at X0 c _ (by rw [e]; exact Sel.pick_first _) ?_
    rw [s0.p, h.p]
    exact Sel.bot_lt_low.trans_le (Sel.low_le_row _ _ _ _)
  have hM : ∀ c, vM (after bodyOps0 X0) (ix1 c) = Sel.row (x c) B k (Sel.pick (Sel.row (x c) B k)) := fun c => by
    have e : (fun n => vP X0 (ix2 c n)) = Sel.row (x c) B k := funext fun n => by rw [s0.p]; exact h.p c n
    rw [max_at X0 c _ (by rw [e]; exact Sel.pick_first _), s0.p, h.p]
  generalize after bodyOps0 X0 = X1 at s1 hA hM hctr ⊢
  have s2 := s1.trans (same1 X1)
  have hT : ∀ c d, vT (after bodyOps1 X1) (ix2 c d) = B (Sel.pick (Sel.row (x c) B k)) d := fun c d => by
    rw [take_at X1 c d _ (hA c), s1.b, h.b]
  have hQ : ∀ c, vQ (after bodyOps1 X1) (ix1 c) = BitVec.ofBool (decide (0 < Sel.row (x c) B k (Sel.pick (Sel.row (x c) B k)))) := fun c => by
    rw [pos_at X1 c, hM]
  have hA := fun c => (congrFun (keepA1 X1) (ix1 c)).trans (hA c)
  have hM := fun c => (congrFun (keepM1 X1) (ix1 c)).trans (hM c)
  generalize after bodyOps1 X1 = X2 at s2 hA hM hT hQ hctr ⊢
  have s3 := s2.trans (same2 X2)
  have hX : ∀ c n, vX (after bodyOps2 X2) (ix2 c n) = Sel.meet (B (Sel.pick (Sel.row (x c) B k))) (B n) := fun c n => by
    rw [meet_at X2 c n]
    congr 1
    · exact funext fun d => hT c d
    · exact funext fun d => by rw [s2.b, h.b]
  have hA := fun c => (congrFun (keepA2 X2) (ix1 c)).trans (hA c)
  have hM := fun c => (congrFun (keepM2 X2) (ix1 c)).trans (hM c)
  have hQ := fun c => (congrFun (keepQ2 X2) (ix1 c)).trans (hQ c)
  have hT := fun c d => (congrFun (keepT2 X2) (ix2 c d)).trans (hT c d)
  generalize after bodyOps2 X2 = X3 at s3 hA hM hT hQ hX hctr ⊢
  have s4 := s3.trans (same3 X3)
  have hC : ∀ c, vC (after bodyOps3 X3) (ix1 c) = Sel.area (B (Sel.pick (Sel.row (x c) B k))) := fun c => by
    rw [area1_at X3 c]
    congr 1
    exact funext fun d => hT c d
  have hD : ∀ n, vD (after bodyOps3 X3) (ix1 n) = Sel.area (B n) := fun n => by
    rw [area2_at X3 n]
    congr 1
    exact funext fun d => by rw [s3.b, h.b]
  have hA := fun c => (congrFun (keepA3 X3) (ix1 c)).trans (hA c)
  have hM := fun c => (congrFun (keepM3 X3) (ix1 c)).trans (hM c)
  have hQ := fun c => (congrFun (keepQ3 X3) (ix1 c)).trans (hQ c)
  have hT := fun c d => (congrFun (keepT3 X3) (ix2 c d)).trans (hT c d)
  have hX := fun c n => (congrFun (keepX3 X3) (ix2 c n)).trans (hX c n)
  generalize after bodyOps3 X3 = X4 at s4 hA hM hT hQ hX hC hD hctr ⊢
  have s5 := s4.trans (same4 X4)
  have hN : ∀ c n, vN (after bodyOps4 X4) (ix2 c n) = Sel.row (x c) B (k + 1) n := fun c n => by
    rw [next_at X4 c n, hX, hC, hD, hA, s4.i, h.i, s4.p, h.p]
    simp only [word_inj]
    rfl
  have hM := fun c => (congrFun (keepM4 X4) (ix1 c)).trans (hM c)
  have hQ := fun c => (congrFun (keepQ4 X4) (ix1 c)).trans (hQ c)
  have hT := fun c d => (congrFun (keepT4 X4) (ix2 c d)).trans (hT c d)
  generalize after bodyOps4 X4 = X5 at s5 hM hT hQ hN hctr ⊢
  obtain ⟨cb, ci, cp⟩ := carry X5
  have hK5 : vK X5 = fun _ => BitVec.ofNat 32 k := s5.k.trans h.ctr
  refine ⟨?_, ?_, ?_, ?_, ?_, ?_⟩
  · intro n d
    rw [cb, s5.b, h.b]
  · intro n
    rw [ci, s5.i, h.i]
  · refine hctr.trans ?_
    funext i
    have h' : X (Proc.devRef .tc main_v79_2) = fun _ => BitVec.ofNat 32 k := h.ctr
    rw [h']
    show BitVec.ofNat 32 k + 1#32 = BitVec.ofNat 32 (k + 1)
    rw [BitVec.ofNat_add]
  · intro c n
    rw [cp]
    exact hN c n
  · intro j c d hj
    rw [box_at X5 k hk hK5 j c d]
    split
    · next hjk => rw [hQ, hT, select_shown, hjk]; rfl
    · next hjk => rw [s5.o]; exact h.o j c d (by omega)
  · intro j c hj
    rw [score_at X5 k hk hK5 j c]
    split
    · next hjk => rw [hQ, hM, select_shown, hjk]; rfl
    · next hjk => rw [s5.s]; exact h.s j c (by omega)

end Cert.Proof.R

end
-- ==== Proof.RefEntry.lean ====
/-
  The reference's loop entered: the scores, the boxes and the candidates' numbers.
-/
module

public import proofs.«01_k».proof.Proof.RefLoop

@[expose] public section

noncomputable section

namespace Cert.Proof.R

open Cert.ReferenceIdeal Cert.ReferenceIdeal.Gen
open Idealize.ShloMosaic Idealize.ShloMosaic.Pointwise
open Idealize.ShloMosaic.TcCoe
open Idealize.ShloMosaic.StableHlo (after)

variable (m : (ℓ : Loc nD τ sig) → Buf (Elt Ideal) ℓ) (c : Dev nD)

/-- The logits, -/
abbrev aL : S1x20000x81.Idx → EReal := m ((c : Thread nD τ).loc main_arg0)
/-- the offsets, -/
abbrev aD : S1x20000x4.Idx → EReal := m ((c : Thread nD τ).loc main_arg1)
/-- and the priors. -/
abbrev aP : S20000x4.Idx → EReal := m ((c : Thread nD τ).loc main_arg2)

/-- A class's logits, -/
abbrev mx (k : _root_.Fin 80) (n : _root_.Fin 20000) : EReal := aL m c (ix3 0 n ⟨1 + k.val, by omega⟩)
/-- and the candidates' boxes. -/
abbrev mB (n : _root_.Fin 20000) : Sel.Box := Sel.corners (fun d => aD m c (ix3 0 n d)) (fun d => aP m c (ix2 n d))

/-- The loop's entry contents. -/
abbrev E0 : Valuation τ sig (Elt Ideal) := StableHlo.entryContents preI m c

theorem entry_b (n : _root_.Fin 20000) (d : _root_.Fin 4) : vB (E0 m c) (ix2 n d) = mB m c n d := by
  simp only [E0, StableHlo.entryContents, StableHlo.afterL_cons, StableHlo.afterL_nil]
  fin_cases d
  · after_reads_at
    after_reads_at
    rfl
  all_goals
    after_reads_at
    after_reads_at
    rfl

theorem entry_p (k : _root_.Fin 80) (n : _root_.Fin 20000) : vP (E0 m c) (ix2 k n) = Sel.start (mx m c k n) := by
  simp only [E0, StableHlo.entryContents, StableHlo.afterL_cons, StableHlo.afterL_nil]
  after_reads_at
  unfold id
  pointwise
  rfl

theorem entry_i (n : _root_.Fin 20000) : vI (E0 m c) (ix1 n) = BitVec.ofNat 32 n.val := by
  simp only [E0, StableHlo.entryContents, StableHlo.afterL_cons, StableHlo.afterL_nil]
  after_reads_at
  rfl

/-- The state before the first trip, -/
theorem entry : St (mx m c) (mB m c) 0 (E0 m c) :=
  ⟨entry_b m c, entry_i m c, ctr_entry m c, entry_p m c, fun _ _ _ h => absurd h (Nat.not_lt_zero _), fun _ _ h => absurd h (Nat.not_lt_zero _)⟩

/-- before each, -/
theorem at_st : ∀ k, k ≤ 100 → St (mx m c) (mB m c) k (At m k c)
  | 0, _ => entry m c
  | k + 1, h => by
    rw [At, StableHlo.atTrip_succ]
    exact step _ _ (by omega) (at_st k (by omega))

/-- and the results: the boxes, -/
theorem fin_box (k : _root_.Fin 80) (j : _root_.Fin 100) (d : _root_.Fin 4) :
    (Fin m c (Proc.devRef .tc main_v80) : S80x100x4.Idx → EReal) (ix3 k j d) = Sel.outBox (mx m c k) (mB m c) j.val d := by
  have h := (at_st m c 100 le_rfl).o j k d j.isLt
  simp only [Fin, StableHlo.finalContents, StableHlo.afterL_cons, StableHlo.afterL_nil]
  after_reads_at
  exact h

/-- the scores, -/
theorem fin_score (k : _root_.Fin 80) (j : _root_.Fin 100) :
    (Fin m c (Proc.devRef .tc main_v81) : S80x100.Idx → EReal) (ix2 k j) = Sel.outScore (mx m c k) (mB m c) j.val := by
  have h := (at_st m c 100 le_rfl).s j k j.isLt
  simp only [Fin, StableHlo.finalContents, StableHlo.afterL_cons, StableHlo.afterL_nil]
  after_reads_at
  exact h

/-- and the labels. -/
theorem fin_label (k : _root_.Fin 80) (j : _root_.Fin 100) :
    (Fin m c (Proc.devRef .tc main_v86) : S80x100.Idx → BitVec 32) (ix2 k j) = IntOp.addi 1#32 (BitVec.ofNat 32 k.val) := by
  simp only [Fin, StableHlo.finalContents, StableHlo.afterL_cons, StableHlo.afterL_nil]
  after_reads_at

end Cert.Proof.R

end
-- ==== Proof.Value.lean ====
/-
  The two programs' results agree: both are the selection of the model, of the same logits and the same boxes.
-/
module

public import proofs.«01_k».proof.Defs
public import proofs.«01_k».proof.Proof.KHost
public import proofs.«01_k».proof.Proof.Whole
public import proofs.«01_k».proof.Proof.RefEntry

@[expose] public section

noncomputable section

namespace Cert.Proof

open Idealize.ShloMosaic Idealize.ShloMosaic.Pointwise Idealize.SL.Sem
open Idealize.ShloMosaic.TcCoe

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The two launches hold the same arguments on core `c`. -/
structure Same (m : KMem) (m' : RMem) (c : Dev Cert.KernelIdeal.nD) : Prop where
  l : R.aL m' c = K.aL m c
  d : R.aD m' c = K.aD m c
  p : R.aP m' c = K.aP m c

variable {m : KMem} {m' : RMem} {c : Dev Cert.KernelIdeal.nD} (h : Same m m' c)

include h

theorem Same.x (k : Fin 80) : K.mx m c k = R.mx m' c k := by
  funext n
  show K.aL m c _ = R.aL m' c _
  rw [h.l]

theorem Same.b : K.mB m c = R.mB m' c := by
  funext n
  show Sel.corners (fun d => K.aD m c _) (fun d => K.aP m c _) = Sel.corners (fun d => R.aD m' c _) (fun d => R.aP m' c _)
  rw [h.d, h.p]

theorem Same.outBox (k : Fin 80) (j : ℕ) (d : Fin 4) :
    Sel.outBox (K.mx m c k) (K.mB m c) j d = Sel.outBox (R.mx m' c k) (R.mB m' c) j d := by
  rw [h.x, h.b]

theorem Same.outScore (k : Fin 80) (j : ℕ) : Sel.outScore (K.mx m c k) (K.mB m c) j = Sel.outScore (R.mx m' c k) (R.mB m' c) j := by
  rw [h.x, h.b]

/-! The results of a run of the kernel are the reference's. -/

variable {o : K.Fin2 (F := Ideal) c} (ho : K.May m c o)

include ho

theorem Same.boxes : (K.W5 m c o (Proc.devRef .tc Cert.KernelIdeal.main_v0_0) : Cert.KernelIdeal.S80x100x4.Idx → EReal)
    = (R.Fin m' c (Proc.devRef .tc Cert.ReferenceIdeal.main_v80) : Cert.ReferenceIdeal.S80x100x4.Idx → EReal) := by
  funext i
  rw [show i = ix3 (i 0) (i 1) (i 2) from by funext a; fin_cases a <;> rfl]
  exact (K.end_box m ho (i 0) (i 1) (i 2)).trans
    ((h.outBox (i 0) (i 1).val (i 2)).trans (R.fin_box m' c (i 0) (i 1) (i 2)).symm)

theorem Same.scores : (K.W5 m c o (Proc.devRef .tc Cert.KernelIdeal.main_v0_2) : Cert.KernelIdeal.S80x100.Idx → EReal)
    = (R.Fin m' c (Proc.devRef .tc Cert.ReferenceIdeal.main_v81) : Cert.ReferenceIdeal.S80x100.Idx → EReal) := by
  funext i
  rw [show i = ix2 (i 0) (i 1) from by funext a; fin_cases a <;> rfl]
  exact (K.end_score m ho (i 0) (i 1)).trans
    ((h.outScore (i 0) (i 1).val).trans (R.fin_score m' c (i 0) (i 1)).symm)

omit h ho in
theorem labels (m' : RMem) (o : K.Fin2 (F := Ideal) c) : (K.W5 m c o (Proc.devRef .tc Cert.KernelIdeal.main_v0_1) : Cert.KernelIdeal.S80x100.Idx → BitVec 32)
    = (R.Fin m' c (Proc.devRef .tc Cert.ReferenceIdeal.main_v86) : Cert.ReferenceIdeal.S80x100.Idx → BitVec 32) := by
  funext i
  rw [show i = ix2 (i 0) (i 1) from by funext a; fin_cases a <;> rfl]
  exact (K.end_label m (i 0) (i 1)).trans (R.fin_label m' c (i 0) (i 1)).symm

omit h ho in
/-- The value claim. -/
theorem algebraic [Cert.KernelIdeal.Facts] [Cert.ReferenceIdeal.Facts] : Cert.algebraic_KernelIdeal_ReferenceIdeal := by
  intro m g m' g' _ hm
  have hs : ∀ c, Same m m' c := fun c => ⟨(hm c).1, (hm c).2.1, (hm c).2.2⟩
  refine ⟨fun c => R.Fin m' c (Proc.devRef .tc Cert.ReferenceIdeal.main_v80), fun c => R.Fin m' c (Proc.devRef .tc Cert.ReferenceIdeal.main_v86),
    fun c => R.Fin m' c (Proc.devRef .tc Cert.ReferenceIdeal.main_v81),
    (θ_run _ _ _).mono (fun r hr c => ?_) (K.ran m g), (θ_run _ _ _).mono (fun r hr c => ?_) (R.ran m' g')⟩
  · have ha := K.args_of_ended m (hr.1 c)
    obtain ⟨o, ho, he⟩ := hr.1 c
    exact ⟨(he Cert.KernelIdeal.main_v0_0 (Finset.mem_filter.mpr ⟨StableHlo.devRef_mem_tcRefs _, by decide⟩)).trans ((hs c).boxes ho),
      (he Cert.KernelIdeal.main_v0_1 (Finset.mem_filter.mpr ⟨StableHlo.devRef_mem_tcRefs _, by decide⟩)).trans (labels m' o),
      (he Cert.KernelIdeal.main_v0_2 (Finset.mem_filter.mpr ⟨StableHlo.devRef_mem_tcRefs _, by decide⟩)).trans ((hs c).scores ho), ha⟩
  · exact ⟨hr.1 c _ rfl, hr.1 c _ rfl, hr.1 c _ rfl, (hr.1 c _ rfl).trans (R.fin_arg0 m' c), (hr.1 c _ rfl).trans (R.fin_arg1 m' c),
      (hr.1 c _ rfl).trans (R.fin_arg2 m' c)⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem

/-- The claim of the certificate. -/
theorem claim : Cert.Claim := ⟨Cert.Kernel.Gen.facts, Cert.KernelIdeal.Gen.facts, Cert.ReferenceIdeal.Gen.facts,
  K.kernelFrame, K.idealFrame, fun m g _ => R.framed m g, trivial,
  letI := Cert.KernelIdeal.Gen.facts; letI := Cert.ReferenceIdeal.Gen.facts; algebraic⟩

end Cert.Proof

end
